-- ==== Defs.lean ====
def Pre_Barriered (m : (ℓ : Loc Cert.Barriered.nD Cert.Barriered.τ Cert.Barriered.sig) → Buf (Elt Bits) ℓ) : Prop :=
  True

def Pre_BarrieredIdeal (m : (ℓ : Loc Cert.BarrieredIdeal.nD Cert.BarrieredIdeal.τ Cert.BarrieredIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Barriered [hBarriered : Cert.Barriered.Facts] : Prop :=
  ∀ (m : (ℓ : Loc Cert.Barriered.nD Cert.Barriered.τ Cert.Barriered.sig) → Buf (Elt Bits) ℓ) (g : Dev Cert.Barriered.nD → PrngReg), Pre_Barriered m →
    θ_run (Cert.Barriered.defs (F := Bits)) (onTc (τ := Cert.Barriered.τ) (Cert.Barriered.main (F := Bits))) ⟨m, fun _ => 0, g⟩ (fun r => (∀ c : Dev Cert.Barriered.nD,
      r.2.mem ((c.tc : Thread Cert.Barriered.nD Cert.Barriered.τ).loc Cert.Barriered.main_arg0) = m ((c.tc : Thread Cert.Barriered.nD Cert.Barriered.τ).loc Cert.Barriered.main_arg0))
      ∧ r.2.sem = fun _ => 0)

def quiescent_BarrieredIdeal [hBarrieredIdeal : Cert.BarrieredIdeal.Facts] : Prop :=
  ∀ (m : (ℓ : Loc Cert.BarrieredIdeal.nD Cert.BarrieredIdeal.τ Cert.BarrieredIdeal.sig) → Buf (Elt Ideal) ℓ) (g : Dev Cert.BarrieredIdeal.nD → PrngReg), Pre_BarrieredIdeal m →
    θ_run (Cert.BarrieredIdeal.defs (F := Ideal)) (onTc (τ := Cert.BarrieredIdeal.τ) (Cert.BarrieredIdeal.main (F := Ideal))) ⟨m, fun _ => 0, g⟩ (fun r => (∀ c : Dev Cert.BarrieredIdeal.nD,
      r.2.mem ((c.tc : Thread Cert.BarrieredIdeal.nD Cert.BarrieredIdeal.τ).loc Cert.BarrieredIdeal.main_arg0) = m ((c.tc : Thread Cert.BarrieredIdeal.nD Cert.BarrieredIdeal.τ).loc Cert.BarrieredIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Barriered_BarrieredIdeal : Prop :=
  True

def algebraic_BarrieredIdeal_ReferenceIdeal [hBarrieredIdeal : Cert.BarrieredIdeal.Facts] [hReferenceIdeal : Cert.ReferenceIdeal.Facts] : Prop :=
  ∀ (m : (ℓ : Loc Cert.BarrieredIdeal.nD Cert.BarrieredIdeal.τ Cert.BarrieredIdeal.sig) → Buf (Elt Ideal) ℓ) (g : Dev Cert.BarrieredIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_BarrieredIdeal m →
    (∀ c : Dev Cert.BarrieredIdeal.nD,
      m ((c.tc : Thread Cert.BarrieredIdeal.nD Cert.BarrieredIdeal.τ).loc Cert.BarrieredIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.BarrieredIdeal.defs (F := Ideal)) (onTc (τ := Cert.BarrieredIdeal.τ) (Cert.BarrieredIdeal.main (F := Ideal))) ⟨m, fun _ => 0, g⟩ (fun r => ∀ c : Dev Cert.BarrieredIdeal.nD,
          r.2.mem ((c.tc : Thread Cert.BarrieredIdeal.nD Cert.BarrieredIdeal.τ).loc Cert.BarrieredIdeal.main_v1) = Layout.block ⟨2, ![8192, 512]⟩ ⟨2, ![8192, 8192]⟩ 1 16 c v0
          ∧ r.2.mem ((c.tc : Thread Cert.BarrieredIdeal.nD Cert.BarrieredIdeal.τ).loc Cert.BarrieredIdeal.main_arg0) = m ((c.tc : Thread Cert.BarrieredIdeal.nD Cert.BarrieredIdeal.τ).loc Cert.BarrieredIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hBarriered : Cert.Barriered.Facts) (hBarrieredIdeal : Cert.BarrieredIdeal.Facts) (hReferenceIdeal : Cert.ReferenceIdeal.Facts),
    quiescent_Barriered (hBarriered := hBarriered)
    ∧ quiescent_BarrieredIdeal (hBarrieredIdeal := hBarrieredIdeal)
    ∧ quiescent_ReferenceIdeal (hReferenceIdeal := hReferenceIdeal)
    ∧ preserves_Barriered_BarrieredIdeal
    ∧ algebraic_BarrieredIdeal_ReferenceIdeal (hBarrieredIdeal := hBarrieredIdeal) (hReferenceIdeal := hReferenceIdeal)
-- ==== Barriered.lean ====
abbrev S512x8192 : Shape := ⟨2, ![512, 8192]⟩
abbrev S8192x512 : Shape := ⟨2, ![8192, 512]⟩
abbrev S16 : Shape := ⟨1, ![16]⟩
abbrev S_ : Shape := ⟨0, ![]⟩
abbrev S1 : Shape := ⟨1, ![1]⟩
abbrev S512x512 : Shape := ⟨2, ![512, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x8192, .f32⟩
  | .hbm, ⟨1, _⟩ => ⟨S8192x512, .f32⟩
  | .local _ .vmem, ⟨0, _⟩ => ⟨S512x8192, .f32⟩
  | .local _ .vmem, ⟨1, _⟩ => ⟨S8192x512, .f32⟩
  | _, _ => ⟨S512x8192, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c8_i32_136 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c8_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  ![v209.toNat]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_143 : BitVec 32 := 512#32
  let v211 : BitVec 32 := Scalar.muli v2 c512_i32_143
  let c0_i32_146 : BitVec 32 := 0#32
  ![v211.toNat, 0]
def k0_off4 (d0 : Dev nD) (c8_i32_136 : BitVec 32) : Fin 2 → Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c8_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c512_i32 : BitVec 32 := 512#32
  let v210 : BitVec 32 := Scalar.muli v209 c512_i32
  ![0, v210.toNat]
def k0_dev16 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_136 : BitVec 32 := 8#32
  let v199 : BitVec 32 := Scalar.addi v2 c8_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c1_i32_144 : BitVec 32 := 1#32
  let v212 : BitVec 32 := Scalar.muli v209 c1_i32_144
  let v213 : BitVec 32 := Scalar.addi c0_i32_145 v212
  v213.toNat
def k0_dev17 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_148 : BitVec 32 := 7#32
  let v220 : BitVec 32 := Scalar.addi v2 c7_i32_148
  let c16_i32_149 : BitVec 32 := 16#32
  let c0_i32_150 : BitVec 32 := 0#32
  let v221 : BitVec 1 := Scalar.cmpi .eq c16_i32_149 c0_i32_150
  let c1_i32_151 : BitVec 32 := 1#32
  let v222 : BitVec 32 := Scalar.select v221 c1_i32_151 c16_i32_149
  let v223 : BitVec 32 := Scalar.remsi v220 v222
  let c0_i32_153 : BitVec 32 := 0#32
  let v225 : BitVec 1 := Scalar.cmpi .slt v223 c0_i32_153
  let c0_i32_154 : BitVec 32 := 0#32
  let v226 : BitVec 1 := Scalar.cmpi .slt v222 c0_i32_154
  let v227 : BitVec 1 := Scalar.xori v225 v226
  let c0_i32_152 : BitVec 32 := 0#32
  let v224 : BitVec 1 := Scalar.cmpi .ne v223 c0_i32_152
  let v228 : BitVec 1 := Scalar.andi v227 v224
  let v229 : BitVec 32 := Scalar.addi v223 v222
  let v230 : BitVec 32 := Scalar.select v228 v229 v223
  let c1_i32_157 : BitVec 32 := 1#32
  let v233 : BitVec 32 := Scalar.muli v230 c1_i32_157
  let v234 : BitVec 32 := Scalar.addi c0_i32_158 v233
  v234.toNat
def k0_dev18 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_161 : BitVec 32 := 9#32
  let v241 : BitVec 32 := Scalar.addi v2 c9_i32_161
  let c16_i32_162 : BitVec 32 := 16#32
  let c0_i32_163 : BitVec 32 := 0#32
  let v242 : BitVec 1 := Scalar.cmpi .eq c16_i32_162 c0_i32_163
  let c1_i32_164 : BitVec 32 := 1#32
  let v243 : BitVec 32 := Scalar.select v242 c1_i32_164 c16_i32_162
  let v244 : BitVec 32 := Scalar.remsi v241 v243
  let c0_i32_166 : BitVec 32 := 0#32
  let v246 : BitVec 1 := Scalar.cmpi .slt v244 c0_i32_166
  let c0_i32_167 : BitVec 32 := 0#32
  let v247 : BitVec 1 := Scalar.cmpi .slt v243 c0_i32_167
  let v248 : BitVec 1 := Scalar.xori v246 v247
  let c0_i32_165 : BitVec 32 := 0#32
  let v245 : BitVec 1 := Scalar.cmpi .ne v244 c0_i32_165
  let v249 : BitVec 1 := Scalar.andi v248 v245
  let v250 : BitVec 32 := Scalar.addi v244 v243
  let v251 : BitVec 32 := Scalar.select v249 v250 v244
  let c1_i32_170 : BitVec 32 := 1#32
  let v254 : BitVec 32 := Scalar.muli v251 c1_i32_170
  let v255 : BitVec 32 := Scalar.addi c0_i32_171 v254
  v255.toNat
def k0_dev19 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_174 : BitVec 32 := 6#32
  let v262 : BitVec 32 := Scalar.addi v2 c6_i32_174
  let c16_i32_175 : BitVec 32 := 16#32
  let c0_i32_176 : BitVec 32 := 0#32
  let v263 : BitVec 1 := Scalar.cmpi .eq c16_i32_175 c0_i32_176
  let c1_i32_177 : BitVec 32 := 1#32
  let v264 : BitVec 32 := Scalar.select v263 c1_i32_177 c16_i32_175
  let v265 : BitVec 32 := Scalar.remsi v262 v264
  let c0_i32_179 : BitVec 32 := 0#32
  let v267 : BitVec 1 := Scalar.cmpi .slt v265 c0_i32_179
  let c0_i32_180 : BitVec 32 := 0#32
  let v268 : BitVec 1 := Scalar.cmpi .slt v264 c0_i32_180
  let v269 : BitVec 1 := Scalar.xori v267 v268
  let c0_i32_178 : BitVec 32 := 0#32
  let v266 : BitVec 1 := Scalar.cmpi .ne v265 c0_i32_178
  let v270 : BitVec 1 := Scalar.andi v269 v266
  let v271 : BitVec 32 := Scalar.addi v265 v264
  let v272 : BitVec 32 := Scalar.select v270 v271 v265
  let c1_i32_183 : BitVec 32 := 1#32
  let v275 : BitVec 32 := Scalar.muli v272 c1_i32_183
  let v276 : BitVec 32 := Scalar.addi c0_i32_184 v275
  v276.toNat
def k0_dev20 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_187 : BitVec 32 := 10#32
  let v283 : BitVec 32 := Scalar.addi v2 c10_i32_187
  let c16_i32_188 : BitVec 32 := 16#32
  let c0_i32_189 : BitVec 32 := 0#32
  let v284 : BitVec 1 := Scalar.cmpi .eq c16_i32_188 c0_i32_189
  let c1_i32_190 : BitVec 32 := 1#32
  let v285 : BitVec 32 := Scalar.select v284 c1_i32_190 c16_i32_188
  let v286 : BitVec 32 := Scalar.remsi v283 v285
  let c0_i32_192 : BitVec 32 := 0#32
  let v288 : BitVec 1 := Scalar.cmpi .slt v286 c0_i32_192
  let c0_i32_193 : BitVec 32 := 0#32
  let v289 : BitVec 1 := Scalar.cmpi .slt v285 c0_i32_193
  let v290 : BitVec 1 := Scalar.xori v288 v289
  let c0_i32_191 : BitVec 32 := 0#32
  let v287 : BitVec 1 := Scalar.cmpi .ne v286 c0_i32_191
  let v291 : BitVec 1 := Scalar.andi v290 v287
  let v292 : BitVec 32 := Scalar.addi v286 v285
  let v293 : BitVec 32 := Scalar.select v291 v292 v286
  let c1_i32_196 : BitVec 32 := 1#32
  let v296 : BitVec 32 := Scalar.muli v293 c1_i32_196
  let v297 : BitVec 32 := Scalar.addi c0_i32_197 v296
  v297.toNat
def k0_dev21 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_200 : BitVec 32 := 5#32
  let v304 : BitVec 32 := Scalar.addi v2 c5_i32_200
  let c16_i32_201 : BitVec 32 := 16#32
  let c0_i32_202 : BitVec 32 := 0#32
  let v305 : BitVec 1 := Scalar.cmpi .eq c16_i32_201 c0_i32_202
  let c1_i32_203 : BitVec 32 := 1#32
  let v306 : BitVec 32 := Scalar.select v305 c1_i32_203 c16_i32_201
  let v307 : BitVec 32 := Scalar.remsi v304 v306
  let c0_i32_205 : BitVec 32 := 0#32
  let v309 : BitVec 1 := Scalar.cmpi .slt v307 c0_i32_205
  let c0_i32_206 : BitVec 32 := 0#32
  let v310 : BitVec 1 := Scalar.cmpi .slt v306 c0_i32_206
  let v311 : BitVec 1 := Scalar.xori v309 v310
  let c0_i32_204 : BitVec 32 := 0#32
  let v308 : BitVec 1 := Scalar.cmpi .ne v307 c0_i32_204
  let v312 : BitVec 1 := Scalar.andi v311 v308
  let v313 : BitVec 32 := Scalar.addi v307 v306
  let v314 : BitVec 32 := Scalar.select v312 v313 v307
  let c1_i32_209 : BitVec 32 := 1#32
  let v317 : BitVec 32 := Scalar.muli v314 c1_i32_209
  let v318 : BitVec 32 := Scalar.addi c0_i32_210 v317
  v318.toNat
def k0_dev22 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_213 : BitVec 32 := 11#32
  let v325 : BitVec 32 := Scalar.addi v2 c11_i32_213
  let c16_i32_214 : BitVec 32 := 16#32
  let c0_i32_215 : BitVec 32 := 0#32
  let v326 : BitVec 1 := Scalar.cmpi .eq c16_i32_214 c0_i32_215
  let c1_i32_216 : BitVec 32 := 1#32
  let v327 : BitVec 32 := Scalar.select v326 c1_i32_216 c16_i32_214
  let v328 : BitVec 32 := Scalar.remsi v325 v327
  let c0_i32_218 : BitVec 32 := 0#32
  let v330 : BitVec 1 := Scalar.cmpi .slt v328 c0_i32_218
  let c0_i32_219 : BitVec 32 := 0#32
  let v331 : BitVec 1 := Scalar.cmpi .slt v327 c0_i32_219
  let v332 : BitVec 1 := Scalar.xori v330 v331
  let c0_i32_217 : BitVec 32 := 0#32
  let v329 : BitVec 1 := Scalar.cmpi .ne v328 c0_i32_217
  let v333 : BitVec 1 := Scalar.andi v332 v329
  let v334 : BitVec 32 := Scalar.addi v328 v327
  let v335 : BitVec 32 := Scalar.select v333 v334 v328
  let c1_i32_222 : BitVec 32 := 1#32
  let v338 : BitVec 32 := Scalar.muli v335 c1_i32_222
  let v339 : BitVec 32 := Scalar.addi c0_i32_223 v338
  v339.toNat
def k0_dev23 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_226 : BitVec 32 := 4#32
  let v346 : BitVec 32 := Scalar.addi v2 c4_i32_226
  let c16_i32_227 : BitVec 32 := 16#32
  let c0_i32_228 : BitVec 32 := 0#32
  let v347 : BitVec 1 := Scalar.cmpi .eq c16_i32_227 c0_i32_228
  let c1_i32_229 : BitVec 32 := 1#32
  let v348 : BitVec 32 := Scalar.select v347 c1_i32_229 c16_i32_227
  let v349 : BitVec 32 := Scalar.remsi v346 v348
  let c0_i32_231 : BitVec 32 := 0#32
  let v351 : BitVec 1 := Scalar.cmpi .slt v349 c0_i32_231
  let c0_i32_232 : BitVec 32 := 0#32
  let v352 : BitVec 1 := Scalar.cmpi .slt v348 c0_i32_232
  let v353 : BitVec 1 := Scalar.xori v351 v352
  let c0_i32_230 : BitVec 32 := 0#32
  let v350 : BitVec 1 := Scalar.cmpi .ne v349 c0_i32_230
  let v354 : BitVec 1 := Scalar.andi v353 v350
  let v355 : BitVec 32 := Scalar.addi v349 v348
  let v356 : BitVec 32 := Scalar.select v354 v355 v349
  let c1_i32_235 : BitVec 32 := 1#32
  let v359 : BitVec 32 := Scalar.muli v356 c1_i32_235
  let v360 : BitVec 32 := Scalar.addi c0_i32_236 v359
  v360.toNat
def k0_dev24 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_239 : BitVec 32 := 12#32
  let v367 : BitVec 32 := Scalar.addi v2 c12_i32_239
  let c16_i32_240 : BitVec 32 := 16#32
  let c0_i32_241 : BitVec 32 := 0#32
  let v368 : BitVec 1 := Scalar.cmpi .eq c16_i32_240 c0_i32_241
  let c1_i32_242 : BitVec 32 := 1#32
  let v369 : BitVec 32 := Scalar.select v368 c1_i32_242 c16_i32_240
  let v370 : BitVec 32 := Scalar.remsi v367 v369
  let c0_i32_244 : BitVec 32 := 0#32
  let v372 : BitVec 1 := Scalar.cmpi .slt v370 c0_i32_244
  let c0_i32_245 : BitVec 32 := 0#32
  let v373 : BitVec 1 := Scalar.cmpi .slt v369 c0_i32_245
  let v374 : BitVec 1 := Scalar.xori v372 v373
  let c0_i32_243 : BitVec 32 := 0#32
  let v371 : BitVec 1 := Scalar.cmpi .ne v370 c0_i32_243
  let v375 : BitVec 1 := Scalar.andi v374 v371
  let v376 : BitVec 32 := Scalar.addi v370 v369
  let v377 : BitVec 32 := Scalar.select v375 v376 v370
  let c1_i32_248 : BitVec 32 := 1#32
  let v380 : BitVec 32 := Scalar.muli v377 c1_i32_248
  let v381 : BitVec 32 := Scalar.addi c0_i32_249 v380
  v381.toNat
def k0_dev25 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_252 : BitVec 32 := 3#32
  let v388 : BitVec 32 := Scalar.addi v2 c3_i32_252
  let c16_i32_253 : BitVec 32 := 16#32
  let c0_i32_254 : BitVec 32 := 0#32
  let v389 : BitVec 1 := Scalar.cmpi .eq c16_i32_253 c0_i32_254
  let c1_i32_255 : BitVec 32 := 1#32
  let v390 : BitVec 32 := Scalar.select v389 c1_i32_255 c16_i32_253
  let v391 : BitVec 32 := Scalar.remsi v388 v390
  let c0_i32_257 : BitVec 32 := 0#32
  let v393 : BitVec 1 := Scalar.cmpi .slt v391 c0_i32_257
  let c0_i32_258 : BitVec 32 := 0#32
  let v394 : BitVec 1 := Scalar.cmpi .slt v390 c0_i32_258
  let v395 : BitVec 1 := Scalar.xori v393 v394
  let c0_i32_256 : BitVec 32 := 0#32
  let v392 : BitVec 1 := Scalar.cmpi .ne v391 c0_i32_256
  let v396 : BitVec 1 := Scalar.andi v395 v392
  let v397 : BitVec 32 := Scalar.addi v391 v390
  let v398 : BitVec 32 := Scalar.select v396 v397 v391
  let c1_i32_261 : BitVec 32 := 1#32
  let v401 : BitVec 32 := Scalar.muli v398 c1_i32_261
  let v402 : BitVec 32 := Scalar.addi c0_i32_262 v401
  v402.toNat
def k0_dev26 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_265 : BitVec 32 := 13#32
  let v409 : BitVec 32 := Scalar.addi v2 c13_i32_265
  let c16_i32_266 : BitVec 32 := 16#32
  let c0_i32_267 : BitVec 32 := 0#32
  let v410 : BitVec 1 := Scalar.cmpi .eq c16_i32_266 c0_i32_267
  let c1_i32_268 : BitVec 32 := 1#32
  let v411 : BitVec 32 := Scalar.select v410 c1_i32_268 c16_i32_266
  let v412 : BitVec 32 := Scalar.remsi v409 v411
  let c0_i32_270 : BitVec 32 := 0#32
  let v414 : BitVec 1 := Scalar.cmpi .slt v412 c0_i32_270
  let c0_i32_271 : BitVec 32 := 0#32
  let v415 : BitVec 1 := Scalar.cmpi .slt v411 c0_i32_271
  let v416 : BitVec 1 := Scalar.xori v414 v415
  let c0_i32_269 : BitVec 32 := 0#32
  let v413 : BitVec 1 := Scalar.cmpi .ne v412 c0_i32_269
  let v417 : BitVec 1 := Scalar.andi v416 v413
  let v418 : BitVec 32 := Scalar.addi v412 v411
  let v419 : BitVec 32 := Scalar.select v417 v418 v412
  let c1_i32_274 : BitVec 32 := 1#32
  let v422 : BitVec 32 := Scalar.muli v419 c1_i32_274
  let v423 : BitVec 32 := Scalar.addi c0_i32_275 v422
  v423.toNat
def k0_dev27 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_278 : BitVec 32 := 2#32
  let v430 : BitVec 32 := Scalar.addi v2 c2_i32_278
  let c16_i32_279 : BitVec 32 := 16#32
  let c0_i32_280 : BitVec 32 := 0#32
  let v431 : BitVec 1 := Scalar.cmpi .eq c16_i32_279 c0_i32_280
  let c1_i32_281 : BitVec 32 := 1#32
  let v432 : BitVec 32 := Scalar.select v431 c1_i32_281 c16_i32_279
  let v433 : BitVec 32 := Scalar.remsi v430 v432
  let c0_i32_283 : BitVec 32 := 0#32
  let v435 : BitVec 1 := Scalar.cmpi .slt v433 c0_i32_283
  let c0_i32_284 : BitVec 32 := 0#32
  let v436 : BitVec 1 := Scalar.cmpi .slt v432 c0_i32_284
  let v437 : BitVec 1 := Scalar.xori v435 v436
  let c0_i32_282 : BitVec 32 := 0#32
  let v434 : BitVec 1 := Scalar.cmpi .ne v433 c0_i32_282
  let v438 : BitVec 1 := Scalar.andi v437 v434
  let v439 : BitVec 32 := Scalar.addi v433 v432
  let v440 : BitVec 32 := Scalar.select v438 v439 v433
  let c1_i32_287 : BitVec 32 := 1#32
  let v443 : BitVec 32 := Scalar.muli v440 c1_i32_287
  let v444 : BitVec 32 := Scalar.addi c0_i32_288 v443
  v444.toNat
def k0_dev28 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_291 : BitVec 32 := 14#32
  let v451 : BitVec 32 := Scalar.addi v2 c14_i32_291
  let c16_i32_292 : BitVec 32 := 16#32
  let c0_i32_293 : BitVec 32 := 0#32
  let v452 : BitVec 1 := Scalar.cmpi .eq c16_i32_292 c0_i32_293
  let c1_i32_294 : BitVec 32 := 1#32
  let v453 : BitVec 32 := Scalar.select v452 c1_i32_294 c16_i32_292
  let v454 : BitVec 32 := Scalar.remsi v451 v453
  let c0_i32_296 : BitVec 32 := 0#32
  let v456 : BitVec 1 := Scalar.cmpi .slt v454 c0_i32_296
  let c0_i32_297 : BitVec 32 := 0#32
  let v457 : BitVec 1 := Scalar.cmpi .slt v453 c0_i32_297
  let v458 : BitVec 1 := Scalar.xori v456 v457
  let c0_i32_295 : BitVec 32 := 0#32
  let v455 : BitVec 1 := Scalar.cmpi .ne v454 c0_i32_295
  let v459 : BitVec 1 := Scalar.andi v458 v455
  let v460 : BitVec 32 := Scalar.addi v454 v453
  let v461 : BitVec 32 := Scalar.select v459 v460 v454
  let c1_i32_300 : BitVec 32 := 1#32
  let v464 : BitVec 32 := Scalar.muli v461 c1_i32_300
  let v465 : BitVec 32 := Scalar.addi c0_i32_301 v464
  v465.toNat
def k0_dev29 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_304 : BitVec 32 := 1#32
  let v472 : BitVec 32 := Scalar.addi v2 c1_i32_304
  let c16_i32_305 : BitVec 32 := 16#32
  let c0_i32_306 : BitVec 32 := 0#32
  let v473 : BitVec 1 := Scalar.cmpi .eq c16_i32_305 c0_i32_306
  let c1_i32_307 : BitVec 32 := 1#32
  let v474 : BitVec 32 := Scalar.select v473 c1_i32_307 c16_i32_305
  let v475 : BitVec 32 := Scalar.remsi v472 v474
  let c0_i32_309 : BitVec 32 := 0#32
  let v477 : BitVec 1 := Scalar.cmpi .slt v475 c0_i32_309
  let c0_i32_310 : BitVec 32 := 0#32
  let v478 : BitVec 1 := Scalar.cmpi .slt v474 c0_i32_310
  let v479 : BitVec 1 := Scalar.xori v477 v478
  let c0_i32_308 : BitVec 32 := 0#32
  let v476 : BitVec 1 := Scalar.cmpi .ne v475 c0_i32_308
  let v480 : BitVec 1 := Scalar.andi v479 v476
  let v481 : BitVec 32 := Scalar.addi v475 v474
  let v482 : BitVec 32 := Scalar.select v480 v481 v475
  let c1_i32_313 : BitVec 32 := 1#32
  let v485 : BitVec 32 := Scalar.muli v482 c1_i32_313
  let v486 : BitVec 32 := Scalar.addi c0_i32_314 v485
  v486.toNat
def k0_dev30 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_317 : BitVec 32 := 15#32
  let v493 : BitVec 32 := Scalar.addi v2 c15_i32_317
  let c16_i32_318 : BitVec 32 := 16#32
  let c0_i32_319 : BitVec 32 := 0#32
  let v494 : BitVec 1 := Scalar.cmpi .eq c16_i32_318 c0_i32_319
  let c1_i32_320 : BitVec 32 := 1#32
  let v495 : BitVec 32 := Scalar.select v494 c1_i32_320 c16_i32_318
  let v496 : BitVec 32 := Scalar.remsi v493 v495
  let c0_i32_322 : BitVec 32 := 0#32
  let v498 : BitVec 1 := Scalar.cmpi .slt v496 c0_i32_322
  let c0_i32_323 : BitVec 32 := 0#32
  let v499 : BitVec 1 := Scalar.cmpi .slt v495 c0_i32_323
  let v500 : BitVec 1 := Scalar.xori v498 v499
  let c0_i32_321 : BitVec 32 := 0#32
  let v497 : BitVec 1 := Scalar.cmpi .ne v496 c0_i32_321
  let v501 : BitVec 1 := Scalar.andi v500 v497
  let v502 : BitVec 32 := Scalar.addi v496 v495
  let v503 : BitVec 32 := Scalar.select v501 v502 v496
  let c1_i32_326 : BitVec 32 := 1#32
  let v506 : BitVec 32 := Scalar.muli v503 c1_i32_326
  let v507 : BitVec 32 := Scalar.addi c0_i32_327 v506
  v507.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_394 : BitVec 32 := 0#32
  let v610 : BitVec 1 := Scalar.cmpi .ne v2 c0_i32_394
  let v611 : BitVec 32 := Scalar.extui v610
  let c0_i32_395 : BitVec 32 := 0#32
  let v612 : BitVec 1 := Scalar.cmpi .ne v611 c0_i32_395
  v612

def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_432 : BitVec 32 := 0#32
  ![v658.toNat, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_396 : BitVec 32 := 1#32
  let v613 : BitVec 1 := Scalar.cmpi .ne v2 c1_i32_396
  let v614 : BitVec 32 := Scalar.extui v613
  let c0_i32_397 : BitVec 32 := 0#32
  let v615 : BitVec 1 := Scalar.cmpi .ne v614 c0_i32_397
  v615

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_432 : BitVec 32 := 0#32
  ![v658.toNat, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_398 : BitVec 32 := 2#32
  let v616 : BitVec 1 := Scalar.cmpi .ne v2 c2_i32_398
  let v617 : BitVec 32 := Scalar.extui v616
  let c0_i32_399 : BitVec 32 := 0#32
  let v618 : BitVec 1 := Scalar.cmpi .ne v617 c0_i32_399
  v618

def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_431 : BitVec 32 := 0#32
  ![v658.toNat, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_400 : BitVec 32 := 3#32
  let v619 : BitVec 1 := Scalar.cmpi .ne v2 c3_i32_400
  let v620 : BitVec 32 := Scalar.extui v619
  let c0_i32_401 : BitVec 32 := 0#32
  let v621 : BitVec 1 := Scalar.cmpi .ne v620 c0_i32_401
  v621

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_431 : BitVec 32 := 0#32
  ![v658.toNat, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_402 : BitVec 32 := 4#32
  let v622 : BitVec 1 := Scalar.cmpi .ne v2 c4_i32_402
  let v623 : BitVec 32 := Scalar.extui v622
  let c0_i32_403 : BitVec 32 := 0#32
  let v624 : BitVec 1 := Scalar.cmpi .ne v623 c0_i32_403
  v624

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_431 : BitVec 32 := 0#32
  ![v658.toNat, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_404 : BitVec 32 := 5#32
  let v625 : BitVec 1 := Scalar.cmpi .ne v2 c5_i32_404
  let v626 : BitVec 32 := Scalar.extui v625
  let c0_i32_405 : BitVec 32 := 0#32
  let v627 : BitVec 1 := Scalar.cmpi .ne v626 c0_i32_405
  v627

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_431 : BitVec 32 := 0#32
  ![v658.toNat, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_406 : BitVec 32 := 6#32
  let v628 : BitVec 1 := Scalar.cmpi .ne v2 c6_i32_406
  let v629 : BitVec 32 := Scalar.extui v628
  let c0_i32_407 : BitVec 32 := 0#32
  let v630 : BitVec 1 := Scalar.cmpi .ne v629 c0_i32_407
  v630

def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_431 : BitVec 32 := 0#32
  ![v658.toNat, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_408 : BitVec 32 := 7#32
  let v631 : BitVec 1 := Scalar.cmpi .ne v2 c7_i32_408
  let v632 : BitVec 32 := Scalar.extui v631
  let c0_i32_409 : BitVec 32 := 0#32
  let v633 : BitVec 1 := Scalar.cmpi .ne v632 c0_i32_409
  v633

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_431 : BitVec 32 := 0#32
  ![v658.toNat, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_410 : BitVec 32 := 8#32
  let v634 : BitVec 1 := Scalar.cmpi .ne v2 c8_i32_410
  let v635 : BitVec 32 := Scalar.extui v634
  let c0_i32_411 : BitVec 32 := 0#32
  let v636 : BitVec 1 := Scalar.cmpi .ne v635 c0_i32_411
  v636

def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_431 : BitVec 32 := 0#32
  ![v658.toNat, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_412 : BitVec 32 := 9#32
  let v637 : BitVec 1 := Scalar.cmpi .ne v2 c9_i32_412
  let v638 : BitVec 32 := Scalar.extui v637
  let c0_i32_413 : BitVec 32 := 0#32
  let v639 : BitVec 1 := Scalar.cmpi .ne v638 c0_i32_413
  v639

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_431 : BitVec 32 := 0#32
  ![v658.toNat, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_414 : BitVec 32 := 10#32
  let v640 : BitVec 1 := Scalar.cmpi .ne v2 c10_i32_414
  let v641 : BitVec 32 := Scalar.extui v640
  let c0_i32_415 : BitVec 32 := 0#32
  let v642 : BitVec 1 := Scalar.cmpi .ne v641 c0_i32_415
  v642

def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_431 : BitVec 32 := 0#32
  ![v658.toNat, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_416 : BitVec 32 := 11#32
  let v643 : BitVec 1 := Scalar.cmpi .ne v2 c11_i32_416
  let v644 : BitVec 32 := Scalar.extui v643
  let c0_i32_417 : BitVec 32 := 0#32
  let v645 : BitVec 1 := Scalar.cmpi .ne v644 c0_i32_417
  v645

def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_431 : BitVec 32 := 0#32
  ![v658.toNat, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_418 : BitVec 32 := 12#32
  let v646 : BitVec 1 := Scalar.cmpi .ne v2 c12_i32_418
  let v647 : BitVec 32 := Scalar.extui v646
  let c0_i32_419 : BitVec 32 := 0#32
  let v648 : BitVec 1 := Scalar.cmpi .ne v647 c0_i32_419
  v648

def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_431 : BitVec 32 := 0#32
  ![v658.toNat, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_420 : BitVec 32 := 13#32
  let v649 : BitVec 1 := Scalar.cmpi .ne v2 c13_i32_420
  let v650 : BitVec 32 := Scalar.extui v649
  let c0_i32_421 : BitVec 32 := 0#32
  let v651 : BitVec 1 := Scalar.cmpi .ne v650 c0_i32_421
  v651

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_431 : BitVec 32 := 0#32
  ![v658.toNat, 0]
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_422 : BitVec 32 := 14#32
  let v652 : BitVec 1 := Scalar.cmpi .ne v2 c14_i32_422
  let v653 : BitVec 32 := Scalar.extui v652
  let c0_i32_423 : BitVec 32 := 0#32
  let v654 : BitVec 1 := Scalar.cmpi .ne v653 c0_i32_423
  v654

def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_431 : BitVec 32 := 0#32
  ![v658.toNat, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_424 : BitVec 32 := 15#32
  let v655 : BitVec 1 := Scalar.cmpi .ne v2 c15_i32_424
  let v656 : BitVec 32 := Scalar.extui v655
  let c0_i32_425 : BitVec 32 := 0#32
  let v657 : BitVec 1 := Scalar.cmpi .ne v656 c0_i32_425
  v657

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_426 : BitVec 32 := 512#32
  let v658 : BitVec 32 := Scalar.muli v2 c512_i32_426
  let c0_i32_431 : BitVec 32 := 0#32
  ![v658.toNat, 0]
abbrev stage0_0 : Fin 1 → Memref sig .tc .vmem S512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩

abbrev nBuf : Space → Nat
  | .hbm => 1
  | .vmem => 0
  | .smem => 0
  | _ => 0

abbrev bufTy : (tb : Table) → Fin (tcTables nBuf tb) → BufTy
  | .hbm, ⟨0, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Barrier.Program.lean ====
/-
# The kernel with the entry barrier, as lists of steps

The printed body is straight-line code of sixteen devices: fifteen signals, one wait, fifteen remote copies, then one
guarded block copy, one guarded receive wait and one guarded send wait per device. Here the body is rewritten once as a
fold over lists of devices (`bodyOf`), at a symbolic device `c`, so that each kind of step is proved once (Steps.lean).
-/
module

public import proofs.«01_k».proof.Proof.Gen.BarrieredIdeal.Skeleton
public import proofs.«01_k».proof.Proof.Gen.BarrieredIdeal.Launch
public import proofs.«01_k».proof.Proof.Gen.BarrieredIdeal.Points

@[expose] public section

noncomputable section

namespace Cert.BarrierProof

open Cert.BarrieredIdeal Cert.BarrieredIdeal.Gen
open Idealize.ShloMosaic Idealize.ShloMosaic.TcCoe Idealize.SL.Sem

variable {F : FTy → Type} [FloatOps F]

abbrev EffB (F : FTy → Type) : Type → Type := TpuEff nD τ sig (Elt F) Λ₀ .tc

/-! ## The memrefs and the semaphores -/

abbrev xM : Memref sig .tc .vmem S512x8192 .f32 := Memref.whole cc0_stg0_0
abbrev oM : Memref sig .tc .vmem S8192x512 .f32 := Memref.whole cc0_stg1_0

theorem colInb (j : Dev nD) : ∀ a, (![0, 512 * j.val] : Fin 2 → Nat) a + S512x512.size a ≤ S512x8192.size a := by
  revert j; decide
theorem rowInb (s : Dev nD) : ∀ a, (![512 * s.val, 0] : Fin 2 → Nat) a + S512x512.size a ≤ S8192x512.size a := by
  revert s; decide
theorem semInb (j : Dev nD) : ∀ a, (![j.val] : Fin 1 → Nat) a + S1.size a ≤ S16.size a := by revert j; decide

/-- Columns `512 j … 512 j + 511` of a device's block of `x`; rows `512 s … 512 s + 511` of its block of the result. -/
abbrev colR (j : Dev nD) : Rect S512x8192 := Rect.unit (s := S512x8192) ![0, 512 * j.val] S512x512.size (colInb j)
abbrev rowR (s : Dev nD) : Rect S8192x512 := Rect.unit (s := S8192x512) ![512 * s.val, 0] S512x512.size (rowInb s)
abbrev xCol (j : Dev nD) : Memref sig .tc .vmem S512x512 .f32 := xM.slice (colR j) (fun _ => rfl)
abbrev oRow (s : Dev nD) : Memref sig .tc .vmem S512x512 .f32 := oM.slice (rowR s) (fun _ => rfl)

abbrev sendS (j : Dev nD) : DmaSems sig S_ :=
  (cc0_scratch0.slice (Rect.unit (s := S16) ![j.val] S1.size (semInb j))).squeeze S_ squeezes_S1_S_
abbrev recvS (s : Dev nD) : DmaSems sig S_ :=
  (cc0_scratch1.slice (Rect.unit (s := S16) ![s.val] S1.size (semInb s))).squeeze S_ squeezes_S1_S_
/-- The runtime's barrier semaphore of collective id 0, which outlives the call. -/
abbrev barS : Sem sig := (SemArray.scalar (sig.barrier 0 rfl) : Sems sig S_).sem

/-! ## The steps -/

def sendOp (c p : Dev nD) : EffB F PUnit :=
  TpuEff.enqueueDma (xCol p) (.remote (Dev.tc p) (oRow c) (.dma (sendS p).sem)) (.dma (recvS c).sem)
    (View.wordExact_bits rfl) (View.wordExact_bits rfl) ⟨⟨rfl, Or.inl rfl⟩, trivial⟩

variable {α β : Type}

def signals : List (Dev nD) → Prog (EffB F) α → Prog (EffB F) α
  | [], k => k
  | p :: l, k => .op (TpuEff.semSignal (p, .tc) barS (1#32 : BitVec 32).toInt) fun _ => signals l k

def sends (c : Dev nD) : List (Dev nD) → Prog (EffB F) α → Prog (EffB F) α
  | [], k => k
  | p :: l, k => .op (sendOp c p) fun _ => sends c l k

/-- The copy of block `j` inside the device. -/
def copyOp (j : Dev nD) (k : Prog (EffB F) α) : Prog (EffB F) α :=
  .op (TpuEff.load xM (colR j).toLoadRect (View.loadsAt_vmem h_S512x512)) fun v =>
  .op (TpuEff.load oM (rowR j).toLoadRect (View.loadsAt_vmem h_S512x512)) fun _ =>
  .op (TpuEff.store oM (rowR j) (k0_pay1 v) Finset.univ (View.stores_vmem_bits_univ h_S512x512 rfl) (.inl rfl)) fun _ => k
def recvOp (s : Dev nD) (k : Prog (EffB F) α) : Prog (EffB F) α :=
  .op (TpuEff.waitDma2 (recvS s).sem (xCol s) (oRow s) (View.wordExact_bits rfl) (View.wordExact_bits rfl)) fun _ => k
def drainOp (c j : Dev nD) (k : Prog (EffB F) α) : Prog (EffB F) α :=
  .op (TpuEff.waitDma2 (sendS j).sem (oRow c) (xCol j) (View.wordExact_bits rfl) (View.wordExact_bits rfl)) fun _ => k

def copies (c : Dev nD) : List (Dev nD) → Prog (EffB F) α → Prog (EffB F) α
  | [], k => k
  | j :: l, k => if j = c then copyOp j (copies c l k) else copies c l k
def recvs (c : Dev nD) : List (Dev nD) → Prog (EffB F) α → Prog (EffB F) α
  | [], k => k
  | s :: l, k => if s ≠ c then recvOp s (recvs c l k) else recvs c l k
def drains (c : Dev nD) : List (Dev nD) → Prog (EffB F) α → Prog (EffB F) α
  | [], k => k
  | j :: l, k => if j ≠ c then drainOp c j (drains c l k) else drains c l k

/-! ## Folds under a bind, and folds of a longer list -/

section Binds
variable (c : Dev nD) (k : Prog (EffB F) α) (f : α → Prog (EffB F) β)

theorem signals_bind : ∀ l, (signals l k >>= f) = signals l (k >>= f)
  | [] => rfl
  | p :: l => by simp only [signals, Prog.bind_op, signals_bind l]
theorem sends_bind : ∀ l, (sends c l k >>= f) = sends c l (k >>= f)
  | [] => rfl
  | p :: l => by simp only [sends, Prog.bind_op, sends_bind l]
theorem copies_bind : ∀ l, (copies c l k >>= f) = copies c l (k >>= f)
  | [] => rfl
  | p :: l => by
    simp only [copies, copyOp]; split
    · simp only [Prog.bind_op, copies_bind l]
    · exact copies_bind l
theorem recvs_bind : ∀ l, (recvs c l k >>= f) = recvs c l (k >>= f)
  | [] => rfl
  | p :: l => by
    simp only [recvs, recvOp]; split
    · simp only [Prog.bind_op, recvs_bind l]
    · exact recvs_bind l
theorem drains_bind : ∀ l, (drains c l k >>= f) = drains c l (k >>= f)
  | [] => rfl
  | p :: l => by
    simp only [drains, drainOp]; split
    · simp only [Prog.bind_op, drains_bind l]
    · exact drains_bind l

theorem signals_append (l' : List (Dev nD)) : ∀ l, signals l (signals l' k) = signals (l ++ l') k
  | [] => rfl
  | p :: l => by simp only [signals, List.cons_append, signals_append l' l]
theorem sends_append (l' : List (Dev nD)) : ∀ l, sends c l (sends c l' k) = sends c (l ++ l') k
  | [] => rfl
  | p :: l => by simp only [sends, List.cons_append, sends_append l' l]
theorem copies_append (l' : List (Dev nD)) : ∀ l, copies c l (copies c l' k) = copies c (l ++ l') k
  | [] => rfl
  | p :: l => by simp only [copies, List.cons_append, copies_append l' l]
theorem recvs_append (l' : List (Dev nD)) : ∀ l, recvs c l (recvs c l' k) = recvs c (l ++ l') k
  | [] => rfl
  | p :: l => by simp only [recvs, List.cons_append, recvs_append l' l]
theorem drains_append (l' : List (Dev nD)) : ∀ l, drains c l (drains c l' k) = drains c (l ++ l') k
  | [] => rfl
  | p :: l => by simp only [drains, List.cons_append, drains_append l' l]
end Binds

/-! ## The printed steps are these -/

set_option backward.proofsInPublic true in
/-- The device `d` places after `c` around the ring of sixteen. -/
def up (c : Dev nD) (d : Nat) : Dev nD := ⟨(c.val + d) % 16, Nat.mod_lt _ (by decide)⟩

/-- A printed guarded step is the guarded step: the condition's word decides `P`, the guarded text is `B`'s, and the
    rest is the rest. -/
theorem when_eq {w : BitVec 1} {P : Prop} [Decidable P] {A : w = 1#1 → Prog (EffB F) α} {B : Prog (EffB F) α → Prog (EffB F) α}
    {k k' : Prog (EffB F) α} (hc : Iff (w = 1#1) P) (hA : ∀ h, A h = B k) (hk : k = k') :
    (if h : w = 1#1 then A h else k) = if P then B k' else k' := by
  subst hk
  by_cases h : w = 1#1
  · rw [dif_pos h, if_pos (hc.mp h), hA]
  · rw [dif_neg h, if_neg (fun h' => h (hc.mpr h'))]

theorem send_eq (c p n : Dev nD) {o₁ o₂ : Fin 1 → Nat} {o₃ o₄ : Fin 2 → Nat} (h₁ : o₁ = ![p.val]) (h₂ : o₂ = ![c.val])
    (h₃ : o₃ = ![512 * c.val, 0]) (h₄ : o₄ = ![0, 512 * p.val]) (hn : n = p)
    (i₁ : ∀ a, o₁ a + S1.size a ≤ S16.size a) (i₂ : ∀ a, o₂ a + S1.size a ≤ S16.size a)
    (i₃ : ∀ a, o₃ a + S512x512.size a ≤ S8192x512.size a) (i₄ : ∀ a, o₄ a + S512x512.size a ≤ S512x8192.size a)
    {k k' : PUnit → Prog (EffB F) α} (hk : k = k') :
    (Prog.op (TpuEff.enqueueDma (xM.slice (Rect.unit (s := S512x8192) o₄ S512x512.size i₄) (fun _ => rfl))
      (.remote (Dev.tc n) (oM.slice (Rect.unit (s := S8192x512) o₃ S512x512.size i₃) (fun _ => rfl))
        (.dma ((cc0_scratch0.slice (Rect.unit (s := S16) o₁ S1.size i₁)).squeeze S_ squeezes_S1_S_).sem))
      (.dma ((cc0_scratch1.slice (Rect.unit (s := S16) o₂ S1.size i₂)).squeeze S_ squeezes_S1_S_).sem)
      (View.wordExact_bits rfl) (View.wordExact_bits rfl) ⟨⟨rfl, Or.inl rfl⟩, trivial⟩) k : Prog (EffB F) α)
    = .op (sendOp c p) k' := by
  subst h₁ h₂ h₃ h₄ hn hk; rfl

theorem drain_eq (c j : Dev nD) {o : Fin 2 → Nat} (ho : o = ![512 * c.val, 0])
    (i : ∀ a, o a + S512x512.size a ≤ S8192x512.size a) (k : Prog (EffB F) α) :
    (Prog.op (TpuEff.waitDma2 (sendS j).sem (oM.slice (Rect.unit (s := S8192x512) o S512x512.size i) (fun _ => rfl)) (xCol j)
      (View.wordExact_bits rfl) (View.wordExact_bits rfl)) fun _ => k : Prog (EffB F) α) = drainOp c j k := by
  subst ho; rfl

/-- The word the kernel computes its place in the ring as, and the words of its guards. -/
abbrev myW (c : Dev nD) : BitVec 32 := Scalar.remsi (Scalar.divsi (Dev.word c) 1#32) 16#32
abbrev eqW (c : Dev nD) (j : BitVec 32) : BitVec 1 := Scalar.cmpi .ne (Scalar.extui (Scalar.cmpi .eq (myW c) j) : BitVec 32) 0#32
abbrev neW (c : Dev nD) (j : BitVec 32) : BitVec 1 := Scalar.cmpi .ne (Scalar.extui (Scalar.cmpi .ne (myW c) j) : BitVec 32) 0#32

theorem eqW_iff : ∀ c j : Dev nD, Iff (eqW c (BitVec.ofNat 32 j.val) = 1#1) (j = c) := by decide +kernel
theorem neW_iff : ∀ c j : Dev nD, Iff (neW c (BitVec.ofNat 32 j.val) = 1#1) (j ≠ c) := by decide +kernel

/-! ## The devices the printed signals and copies name -/

section Devs
variable (c : Dev nD)
theorem dev1 : (⟨k0_dev1 c, k0_dev1_lt c⟩ : Dev nD) = up c 1 := by revert c; decide +kernel
theorem dev2 : (⟨k0_dev2 c, k0_dev2_lt c⟩ : Dev nD) = up c 2 := by revert c; decide +kernel
theorem dev3 : (⟨k0_dev3 c, k0_dev3_lt c⟩ : Dev nD) = up c 3 := by revert c; decide +kernel
theorem dev4 : (⟨k0_dev4 c, k0_dev4_lt c⟩ : Dev nD) = up c 4 := by revert c; decide +kernel
theorem dev5 : (⟨k0_dev5 c, k0_dev5_lt c⟩ : Dev nD) = up c 5 := by revert c; decide +kernel
theorem dev6 : (⟨k0_dev6 c, k0_dev6_lt c⟩ : Dev nD) = up c 6 := by revert c; decide +kernel
theorem dev7 : (⟨k0_dev7 c, k0_dev7_lt c⟩ : Dev nD) = up c 7 := by revert c; decide +kernel
theorem dev8 : (⟨k0_dev8 c, k0_dev8_lt c⟩ : Dev nD) = up c 8 := by revert c; decide +kernel
theorem dev9 : (⟨k0_dev9 c, k0_dev9_lt c⟩ : Dev nD) = up c 9 := by revert c; decide +kernel
theorem dev10 : (⟨k0_dev10 c, k0_dev10_lt c⟩ : Dev nD) = up c 10 := by revert c; decide +kernel
theorem dev11 : (⟨k0_dev11 c, k0_dev11_lt c⟩ : Dev nD) = up c 11 := by revert c; decide +kernel
theorem dev12 : (⟨k0_dev12 c, k0_dev12_lt c⟩ : Dev nD) = up c 12 := by revert c; decide +kernel
theorem dev13 : (⟨k0_dev13 c, k0_dev13_lt c⟩ : Dev nD) = up c 13 := by revert c; decide +kernel
theorem dev14 : (⟨k0_dev14 c, k0_dev14_lt c⟩ : Dev nD) = up c 14 := by revert c; decide +kernel
theorem dev15 : (⟨k0_dev15 c, k0_dev15_lt c⟩ : Dev nD) = up c 15 := by revert c; decide +kernel
theorem dev16 : (⟨k0_dev16 c, k0_dev16_lt c⟩ : Dev nD) = up c 8 := by revert c; decide +kernel
theorem dev17 : (⟨k0_dev17 c, k0_dev17_lt c⟩ : Dev nD) = up c 7 := by revert c; decide +kernel
theorem dev18 : (⟨k0_dev18 c, k0_dev18_lt c⟩ : Dev nD) = up c 9 := by revert c; decide +kernel
theorem dev19 : (⟨k0_dev19 c, k0_dev19_lt c⟩ : Dev nD) = up c 6 := by revert c; decide +kernel
theorem dev20 : (⟨k0_dev20 c, k0_dev20_lt c⟩ : Dev nD) = up c 10 := by revert c; decide +kernel
theorem dev21 : (⟨k0_dev21 c, k0_dev21_lt c⟩ : Dev nD) = up c 5 := by revert c; decide +kernel
theorem dev22 : (⟨k0_dev22 c, k0_dev22_lt c⟩ : Dev nD) = up c 11 := by revert c; decide +kernel
theorem dev23 : (⟨k0_dev23 c, k0_dev23_lt c⟩ : Dev nD) = up c 4 := by revert c; decide +kernel
theorem dev24 : (⟨k0_dev24 c, k0_dev24_lt c⟩ : Dev nD) = up c 12 := by revert c; decide +kernel
theorem dev25 : (⟨k0_dev25 c, k0_dev25_lt c⟩ : Dev nD) = up c 3 := by revert c; decide +kernel
theorem dev26 : (⟨k0_dev26 c, k0_dev26_lt c⟩ : Dev nD) = up c 13 := by revert c; decide +kernel
theorem dev27 : (⟨k0_dev27 c, k0_dev27_lt c⟩ : Dev nD) = up c 2 := by revert c; decide +kernel
theorem dev28 : (⟨k0_dev28 c, k0_dev28_lt c⟩ : Dev nD) = up c 14 := by revert c; decide +kernel
theorem dev29 : (⟨k0_dev29 c, k0_dev29_lt c⟩ : Dev nD) = up c 1 := by revert c; decide +kernel
theorem dev30 : (⟨k0_dev30 c, k0_dev30_lt c⟩ : Dev nD) = up c 15 := by revert c; decide +kernel
end Devs

theorem off1 : ∀ (c : Dev nD) (r : Fin 15), k0_off1 c (BitVec.ofNat 32 (1 + r.val)) = ![(up c (1 + r.val)).val] := by decide +kernel
theorem off4 : ∀ (c : Dev nD) (r : Fin 15), k0_off4 c (BitVec.ofNat 32 (1 + r.val)) = ![0, 512 * (up c (1 + r.val)).val] := by decide +kernel

/-! ## The printed parts with guards -/

section Parts
variable (c : Dev nD)

theorem cond33 : Iff (k0_cond33 c = 1#1) (0 ≠ c) := by revert c; decide +kernel
theorem cond34 : Iff (k0_cond34 c = 1#1) (1 ≠ c) := by revert c; decide +kernel
theorem cond35 : Iff (k0_cond35 c = 1#1) (2 ≠ c) := by revert c; decide +kernel
theorem cond36 : Iff (k0_cond36 c = 1#1) (3 ≠ c) := by revert c; decide +kernel
theorem cond37 : Iff (k0_cond37 c = 1#1) (4 ≠ c) := by revert c; decide +kernel
theorem cond38 : Iff (k0_cond38 c = 1#1) (5 ≠ c) := by revert c; decide +kernel
theorem cond39 : Iff (k0_cond39 c = 1#1) (6 ≠ c) := by revert c; decide +kernel
theorem cond40 : Iff (k0_cond40 c = 1#1) (7 ≠ c) := by revert c; decide +kernel
theorem cond41 : Iff (k0_cond41 c = 1#1) (8 ≠ c) := by revert c; decide +kernel
theorem cond42 : Iff (k0_cond42 c = 1#1) (9 ≠ c) := by revert c; decide +kernel
theorem cond43 : Iff (k0_cond43 c = 1#1) (10 ≠ c) := by revert c; decide +kernel
theorem cond44 : Iff (k0_cond44 c = 1#1) (11 ≠ c) := by revert c; decide +kernel
theorem cond45 : Iff (k0_cond45 c = 1#1) (12 ≠ c) := by revert c; decide +kernel
theorem cond46 : Iff (k0_cond46 c = 1#1) (13 ≠ c) := by revert c; decide +kernel
theorem cond47 : Iff (k0_cond47 c = 1#1) (14 ≠ c) := by revert c; decide +kernel
theorem cond48 : Iff (k0_cond48 c = 1#1) (15 ≠ c) := by revert c; decide +kernel

theorem part16 : k0_part16 (F := F) xM (Memref.isWhole_whole _) oM (Memref.isWhole_whole _) cc0_scratch0 cc0_scratch1 (myW c) (eqW c 0#32)
    = copies c [0, 1, 2, 3, 4, 5, 6, 7, 8, 9] (.ret (eqW c 10#32)) := by
  rw [k0_part16_eq_skeleton]
  exact when_eq (eqW_iff c 0) (fun _ => rfl) <|
    when_eq (eqW_iff c 1) (fun _ => rfl) <|
    when_eq (eqW_iff c 2) (fun _ => rfl) <|
    when_eq (eqW_iff c 3) (fun _ => rfl) <|
    when_eq (eqW_iff c 4) (fun _ => rfl) <|
    when_eq (eqW_iff c 5) (fun _ => rfl) <|
    when_eq (eqW_iff c 6) (fun _ => rfl) <|
    when_eq (eqW_iff c 7) (fun _ => rfl) <|
    when_eq (eqW_iff c 8) (fun _ => rfl) <|
    when_eq (eqW_iff c 9) (fun _ => rfl) <|
    rfl

theorem part17 : k0_part17 (F := F) xM (Memref.isWhole_whole _) oM (Memref.isWhole_whole _) cc0_scratch0 cc0_scratch1 (myW c) (eqW c 10#32)
    = copies c [10, 11, 12, 13, 14, 15] (recvs c [0, 1, 2, 3] (.ret (neW c 4#32))) := by
  rw [k0_part17_eq_skeleton]
  exact when_eq (eqW_iff c 10) (fun _ => rfl) <|
    when_eq (eqW_iff c 11) (fun _ => rfl) <|
    when_eq (eqW_iff c 12) (fun _ => rfl) <|
    when_eq (eqW_iff c 13) (fun _ => rfl) <|
    when_eq (eqW_iff c 14) (fun _ => rfl) <|
    when_eq (eqW_iff c 15) (fun _ => rfl) <|
    when_eq (neW_iff c 0) (fun _ => rfl) <|
    when_eq (neW_iff c 1) (fun _ => rfl) <|
    when_eq (neW_iff c 2) (fun _ => rfl) <|
    when_eq (neW_iff c 3) (fun _ => rfl) <|
    rfl

theorem part18 : k0_part18 (F := F) xM (Memref.isWhole_whole _) oM (Memref.isWhole_whole _) cc0_scratch0 cc0_scratch1 (myW c) (neW c 4#32)
    = recvs c [4, 5, 6, 7, 8, 9, 10, 11, 12, 13] (.ret (neW c 14#32)) := by
  rw [k0_part18_eq_skeleton]
  exact when_eq (neW_iff c 4) (fun _ => rfl) <|
    when_eq (neW_iff c 5) (fun _ => rfl) <|
    when_eq (neW_iff c 6) (fun _ => rfl) <|
    when_eq (neW_iff c 7) (fun _ => rfl) <|
    when_eq (neW_iff c 8) (fun _ => rfl) <|
    when_eq (neW_iff c 9) (fun _ => rfl) <|
    when_eq (neW_iff c 10) (fun _ => rfl) <|
    when_eq (neW_iff c 11) (fun _ => rfl) <|
    when_eq (neW_iff c 12) (fun _ => rfl) <|
    when_eq (neW_iff c 13) (fun _ => rfl) <|
    rfl

theorem part19 : k0_part19 (F := F) xM (Memref.isWhole_whole _) oM (Memref.isWhole_whole _) cc0_scratch0 cc0_scratch1 c (myW c) (neW c 14#32)
    = recvs c [14, 15] (drains c [0, 1, 2, 3, 4, 5, 6, 7] (.ret ⟨⟩)) := by
  rw [k0_part19_eq_skeleton]
  exact when_eq (neW_iff c 14) (fun _ => rfl) <|
    when_eq (neW_iff c 15) (fun _ => rfl) <|
    when_eq (cond33 c) (fun _ => drain_eq c 0 (k0_off5_eq c) _ _) <|
    when_eq (cond34 c) (fun _ => drain_eq c 1 (k0_off6_eq c) _ _) <|
    when_eq (cond35 c) (fun _ => drain_eq c 2 (k0_off7_eq c) _ _) <|
    when_eq (cond36 c) (fun _ => drain_eq c 3 (k0_off8_eq c) _ _) <|
    when_eq (cond37 c) (fun _ => drain_eq c 4 (k0_off9_eq c) _ _) <|
    when_eq (cond38 c) (fun _ => drain_eq c 5 (k0_off10_eq c) _ _) <|
    when_eq (cond39 c) (fun _ => drain_eq c 6 (k0_off11_eq c) _ _) <|
    when_eq (cond40 c) (fun _ => drain_eq c 7 (k0_off12_eq c) _ _) <|
    rfl

end Parts

/-! ## The whole body -/

/-- The other devices in the order the kernel signals them; in the order it sends to them, the farthest first; all devices. -/
def near (c : Dev nD) : List (Dev nD) := [up c 1, up c 2, up c 3, up c 4, up c 5, up c 6, up c 7, up c 8, up c 9, up c 10, up c 11, up c 12, up c 13, up c 14, up c 15]
def far (c : Dev nD) : List (Dev nD) := [up c 8, up c 7, up c 9, up c 6, up c 10, up c 5, up c 11, up c 4, up c 12, up c 3, up c 13, up c 2, up c 14, up c 1, up c 15]
abbrev devs : List (Dev nD) := [0, 1, 2, 3, 4, 5, 6, 7, 8, 9, 10, 11, 12, 13, 14, 15]

def tailOf (c : Dev nD) (k : Prog (EffB F) α) : Prog (EffB F) α :=
  copies c devs <| recvs c devs <| drains c devs k

def bodyOf (c : Dev nD) : Prog (EffB F) PUnit :=
  signals (near c) <| .op (TpuEff.semWait barS (15#32 : BitVec 32).toInt) fun _ =>
    sends c (far c) <| tailOf c <| .ret ⟨⟩

theorem signal_eq {n p : Dev nD} (hn : n = p) {k k' : PUnit → Prog (EffB F) α} (hk : k = k') :
    (Prog.op (TpuEff.semSignal (n, .tc) barS (1#32 : BitVec 32).toInt) k : Prog (EffB F) α)
      = .op (TpuEff.semSignal (p, .tc) barS (1#32 : BitVec 32).toInt) k' := by
  subst hn hk; rfl
theorem op_eq {γ : Type} (e : EffB F γ) {k k' : γ → Prog (EffB F) α} (hk : k = k') : Prog.op e k = Prog.op e k' := by rw [hk]

set_option maxRecDepth 20000 in
set_option maxHeartbeats 4000000 in
/-- The printed body up to its last guarded wait. -/
theorem part20 : ∃ w : Dev nD → BitVec 32,
    k0_part20 (F := F) xM (Memref.isWhole_whole _) oM (Memref.isWhole_whole _) cc0_scratch0 cc0_scratch1
      = .op TpuEff.deviceId fun c => signals (near c) <| .op (TpuEff.semWait barS (15#32 : BitVec 32).toInt) fun _ =>
          sends c (far c) <| copies c devs <| recvs c devs <| drains c [0, 1, 2, 3, 4, 5, 6, 7, 8, 9, 10, 11, 12, 13, 14] <| .ret ⟨c, myW c, w c, 0#32⟩ := by
  simp only [k0_part20_eq_skeleton, k0_part20_skel,
    k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    semSignalWord, semWaitWord, Prog.lift, Prog.bind_op, Prog.bind_ret, Prog.pure_eq_ret]
  refine ⟨fun c => Scalar.extui (Scalar.cmpi .ne (myW c) 15#32), congrArg (Prog.op _) (funext fun c => ?_)⟩
  simp only [part16, part17, part18, part19, copies_bind, recvs_bind, drains_bind, Prog.bind_ret, copies_append, recvs_append]
  refine signal_eq (dev1 c) <| funext fun _ =>
    signal_eq (dev2 c) <| funext fun _ =>
    signal_eq (dev3 c) <| funext fun _ =>
    signal_eq (dev4 c) <| funext fun _ =>
    signal_eq (dev5 c) <| funext fun _ =>
    signal_eq (dev6 c) <| funext fun _ =>
    signal_eq (dev7 c) <| funext fun _ =>
    signal_eq (dev8 c) <| funext fun _ =>
    signal_eq (dev9 c) <| funext fun _ =>
    signal_eq (dev10 c) <| funext fun _ =>
    signal_eq (dev11 c) <| funext fun _ =>
    signal_eq (dev12 c) <| funext fun _ =>
    signal_eq (dev13 c) <| funext fun _ =>
    signal_eq (dev14 c) <| funext fun _ =>
    signal_eq (dev15 c) <| funext fun _ => op_eq _ <| funext fun _ =>
    send_eq c (up c 8) _ (off1 c 7) (k0_off2_eq c) (k0_off3_eq c) (off4 c 7) (dev16 c) _ _ _ _ <| funext fun _ =>
    send_eq c (up c 7) _ (off1 c 6) (k0_off2_eq c) (k0_off3_eq c) (off4 c 6) (dev17 c) _ _ _ _ <| funext fun _ =>
    send_eq c (up c 9) _ (off1 c 8) (k0_off2_eq c) (k0_off3_eq c) (off4 c 8) (dev18 c) _ _ _ _ <| funext fun _ =>
    send_eq c (up c 6) _ (off1 c 5) (k0_off2_eq c) (k0_off3_eq c) (off4 c 5) (dev19 c) _ _ _ _ <| funext fun _ =>
    send_eq c (up c 10) _ (off1 c 9) (k0_off2_eq c) (k0_off3_eq c) (off4 c 9) (dev20 c) _ _ _ _ <| funext fun _ =>
    send_eq c (up c 5) _ (off1 c 4) (k0_off2_eq c) (k0_off3_eq c) (off4 c 4) (dev21 c) _ _ _ _ <| funext fun _ =>
    send_eq c (up c 11) _ (off1 c 10) (k0_off2_eq c) (k0_off3_eq c) (off4 c 10) (dev22 c) _ _ _ _ <| funext fun _ =>
    send_eq c (up c 4) _ (off1 c 3) (k0_off2_eq c) (k0_off3_eq c) (off4 c 3) (dev23 c) _ _ _ _ <| funext fun _ =>
    send_eq c (up c 12) _ (off1 c 11) (k0_off2_eq c) (k0_off3_eq c) (off4 c 11) (dev24 c) _ _ _ _ <| funext fun _ =>
    send_eq c (up c 3) _ (off1 c 2) (k0_off2_eq c) (k0_off3_eq c) (off4 c 2) (dev25 c) _ _ _ _ <| funext fun _ =>
    send_eq c (up c 13) _ (off1 c 12) (k0_off2_eq c) (k0_off3_eq c) (off4 c 12) (dev26 c) _ _ _ _ <| funext fun _ =>
    send_eq c (up c 2) _ (off1 c 1) (k0_off2_eq c) (k0_off3_eq c) (off4 c 1) (dev27 c) _ _ _ _ <| funext fun _ =>
    send_eq c (up c 14) _ (off1 c 13) (k0_off2_eq c) (k0_off3_eq c) (off4 c 13) (dev28 c) _ _ _ _ <| funext fun _ =>
    send_eq c (up c 1) _ (off1 c 0) (k0_off2_eq c) (k0_off3_eq c) (off4 c 0) (dev29 c) _ _ _ _ <| funext fun _ =>
    send_eq c (up c 15) _ (off1 c 14) (k0_off2_eq c) (k0_off3_eq c) (off4 c 14) (dev30 c) _ _ _ _ <| funext fun _ =>
    congrArg (copies c devs) <| congrArg (recvs c devs) <|
    ((congrArg (drains c [0, 1, 2, 3, 4, 5, 6, 7]) ?_).trans (drains_append c (Prog.ret _) [8, 9, 10, 11, 12, 13, 14] [0, 1, 2, 3, 4, 5, 6, 7]))
  exact
    when_eq (cond41 c) (fun _ => drain_eq c 8 (k0_off13_eq c) _ _) <|
    when_eq (cond42 c) (fun _ => drain_eq c 9 (k0_off14_eq c) _ _) <|
    when_eq (cond43 c) (fun _ => drain_eq c 10 (k0_off15_eq c) _ _) <|
    when_eq (cond44 c) (fun _ => drain_eq c 11 (k0_off16_eq c) _ _) <|
    when_eq (cond45 c) (fun _ => drain_eq c 12 (k0_off17_eq c) _ _) <|
    when_eq (cond46 c) (fun _ => drain_eq c 13 (k0_off18_eq c) _ _) <|
    when_eq (cond47 c) (fun _ => drain_eq c 14 (k0_off19_eq c) _ _) <| rfl

theorem body_eq : cc0_body (F := F) xM (Memref.isWhole_whole _) oM (Memref.isWhole_whole _) cc0_scratch0 cc0_scratch1
    = .op TpuEff.deviceId fun c => bodyOf c := by
  obtain ⟨w, hw⟩ := part20 (F := F)
  rw [cc0_body_eq_skeleton, cc0_body_skel, hw, Prog.bind_op]
  refine congrArg (Prog.op _) (funext fun c => ?_)
  simp only [signals_bind, Prog.bind_op, sends_bind, copies_bind, recvs_bind, drains_bind, Prog.bind_ret, Prog.pure_eq_ret]
  refine congrArg (signals (near c)) <| op_eq _ <| funext fun _ => congrArg (sends c (far c)) <| congrArg (copies c devs) <|
    congrArg (recvs c devs) <| (congrArg (drains c [0, 1, 2, 3, 4, 5, 6, 7, 8, 9, 10, 11, 12, 13, 14]) ?_).trans (drains_append c (Prog.ret PUnit.unit) [15] _)
  exact when_eq (cond48 c) (fun _ => drain_eq c 15 (k0_off20_eq c) _ _) rfl

end Cert.BarrierProof
end
-- ==== Proof.Barrier.Contents.lean ====
/-
# What the buffers hold

A device's block of `x` (512 rows) is cut into sixteen column blocks, its block of the result (512 columns) into sixteen
row blocks. After the run row block `s` of device `c`'s result holds column block `c` of device `s`'s block of `x`.
-/
module

public import proofs.«01_k».proof.Proof.Barrier.Program
public import Idealize.ShloMosaic.Lib.Ring
public import Idealize.ShloMosaic.Lib.Pipeline.Launch
public import Idealize.ShloMosaic.Lib.Pipeline.Kit
public import Idealize.ShloMosaic.Lib.Tactic

@[expose] public section

noncomputable section

namespace Cert.BarrierProof

open Cert.BarrieredIdeal Cert.BarrieredIdeal.Gen
open Idealize.ShloMosaic Idealize.ShloMosaic.TcCoe Idealize.SL.Sem

variable {F : FTy → Type}

abbrev XC (F : FTy → Type) : Type := (cc0_stg0_0 : Ref sig .tc).ty.Contents (Elt F)
abbrev OC (F : FTy → Type) : Type := (cc0_stg1_0 : Ref sig .tc).ty.Contents (Elt F)

/-- The index of the block of `x` that entry `i` of device `c`'s result comes from, on device `i₀ / 512`. -/
def srcIx (c : Dev nD) (i : S8192x512.Idx) : S512x8192.Idx := fun a => match a with
  | ⟨0, _⟩ => (⟨(i 0).val % 512, Nat.mod_lt _ (by decide)⟩ : Fin 512)
  | ⟨1, _⟩ => (⟨512 * c.val + (i 1).val, by
      have h1 : (i 1).val < 512 := (i 1).isLt
      have h2 : c.val < 16 := c.isLt
      omega⟩ : Fin 8192)
def rowDev (i : S8192x512.Idx) : Dev nD := ⟨(i 0).val / 512, by
  have h1 : (i 0).val < 8192 := (i 0).isLt
  show (i 0).val / 512 < 16
  omega⟩

/-- Device `c`'s result, from every device's block `X` of `x`. -/
def outOf (X : Dev nD → XC F) (c : Dev nD) : OC F := fun i => X (rowDev i) (srcIx c i)

theorem oRow_emb0 (s : Dev nD) (y : S512x512.Idx) : ((oRow s).view.emb y 0).val = 512 * s.val + (y 0).val := by
  show 512 * s.val + 1 * (y 0).val = _
  omega
theorem oRow_emb1 (s : Dev nD) (y : S512x512.Idx) : ((oRow s).view.emb y 1).val = (y 1).val := by
  show 0 + 1 * (y 1).val = _
  omega
theorem xCol_emb0 (j : Dev nD) (y : S512x512.Idx) : ((xCol j).view.emb y 0).val = (y 0).val := by
  show 0 + 1 * (y 0).val = _
  omega
theorem xCol_emb1 (j : Dev nD) (y : S512x512.Idx) : ((xCol j).view.emb y 1).val = 512 * j.val + (y 1).val := by
  show 512 * j.val + 1 * (y 1).val = _
  omega

theorem rowDev_emb (s : Dev nD) (y : S512x512.Idx) : rowDev ((oRow s).view.emb y) = s := by
  apply Fin.ext
  show ((oRow s).view.emb y 0).val / 512 = s.val
  rw [oRow_emb0]
  have : (y 0).val < 512 := (y 0).isLt
  omega
theorem srcIx_emb (c s : Dev nD) (y : S512x512.Idx) : srcIx c ((oRow s).view.emb y) = (xCol c).view.emb y := by
  have h0 : (y 0).val < 512 := (y 0).isLt
  funext a
  apply Fin.ext
  match a with
  | ⟨0, _⟩ =>
    refine Eq.trans (b := (y 0).val) ?_ (xCol_emb0 c y).symm
    show ((oRow s).view.emb y 0).val % 512 = _
    rw [oRow_emb0]; omega
  | ⟨1, _⟩ =>
    refine Eq.trans (b := 512 * c.val + (y 1).val) ?_ (xCol_emb1 c y).symm
    show 512 * c.val + ((oRow s).view.emb y 1).val = _
    rw [oRow_emb1]

/-- Writing column block `c` of `X s` to row block `s` leaves `outOf X c` there. -/
theorem write_row (X : Dev nD → XC F) (c s : Dev nD) (f : OC F) :
    ∀ i ∈ (oRow s).view.set, (oRow s).view.write (Elt F) f ((xCol c).view.read (Elt F) (X s)) Finset.univ i = outOf X c i := by
  intro i hi
  obtain ⟨y, -, rfl⟩ := Finset.mem_map.mp hi
  rw [View.write_emb_of_mem _ _ (Finset.mem_univ y)]
  show (xCol c).view.read (Elt F) (X s) y = X (rowDev ((oRow s).view.emb y)) (srcIx c ((oRow s).view.emb y))
  rw [rowDev_emb, srcIx_emb]
  rfl

theorem oRow_mem {s : Dev nD} {i : S8192x512.Idx} (h : i ∈ (oRow s).view.set) : rowDev i = s := by
  obtain ⟨y, -, rfl⟩ := Finset.mem_map.mp h
  exact rowDev_emb s y
theorem xCol_mem {j : Dev nD} {i : S512x8192.Idx} (h : i ∈ (xCol j).view.set) : (i 1).val / 512 = j.val := by
  obtain ⟨y, -, rfl⟩ := Finset.mem_map.mp h
  rw [xCol_emb1]
  have : (y 1).val < 512 := (y 1).isLt
  omega

theorem oRow_disjoint (s s' : Dev nD) (h : s ≠ s') : Disjoint (oRow s).view.set (oRow s').view.set :=
  Finset.disjoint_left.mpr fun i hi hi' => h ((oRow_mem hi).symm.trans (oRow_mem hi'))
theorem xCol_disjoint (j j' : Dev nD) (h : j ≠ j') : Disjoint (xCol j).view.set (xCol j').view.set :=
  Finset.disjoint_left.mpr fun i hi hi' => h (Fin.ext ((xCol_mem hi).symm.trans (xCol_mem hi')))

/-- The elements of a row block, of a column block. -/
abbrev oSet (s : Dev nD) : Finset ((cc0_stg1_0 : Ref sig .tc).ty.Idx) := (oRow s).view.set
abbrev xSet (j : Dev nD) : Finset ((cc0_stg0_0 : Ref sig .tc).ty.Idx) := (xCol j).view.set

theorem oRow_cover : Finset.univ.biUnion oSet = Finset.univ := by
  refine Finset.eq_univ_iff_forall.mpr fun i => Finset.mem_biUnion.mpr ⟨rowDev i, Finset.mem_univ _, ?_⟩
  have h1 : (i 0).val < 8192 := (i 0).isLt
  let y : S512x512.Idx := fun a => match a with
    | ⟨0, _⟩ => (⟨(i 0).val % 512, Nat.mod_lt _ (by decide)⟩ : Fin 512)
    | ⟨1, _⟩ => (⟨(i 1).val, (i 1).isLt⟩ : Fin 512)
  refine Finset.mem_map.mpr ⟨y, Finset.mem_univ _, ?_⟩
  funext a
  apply Fin.ext
  match a with
  | ⟨0, _⟩ =>
    refine (oRow_emb0 (rowDev i) y).trans ?_
    show 512 * ((i 0).val / 512) + (i 0).val % 512 = (i 0).val
    omega
  | ⟨1, _⟩ => exact oRow_emb1 (rowDev i) y

theorem xCol_cover : Finset.univ.biUnion xSet = Finset.univ := by
  refine Finset.eq_univ_iff_forall.mpr fun i => Finset.mem_biUnion.mpr ?_
  have h1 : (i 1).val < 8192 := (i 1).isLt
  let j : Dev nD := (⟨(i 1).val / 512, by omega⟩ : Fin 16)
  let y : S512x512.Idx := fun a => match a with
    | ⟨0, _⟩ => (⟨(i 0).val, (i 0).isLt⟩ : Fin 512)
    | ⟨1, _⟩ => (⟨(i 1).val % 512, Nat.mod_lt _ (by decide)⟩ : Fin 512)
  refine ⟨j, Finset.mem_univ _, Finset.mem_map.mpr ⟨y, Finset.mem_univ _, ?_⟩⟩
  funext a
  apply Fin.ext
  match a with
  | ⟨0, _⟩ => exact xCol_emb0 j y
  | ⟨1, _⟩ =>
    refine (xCol_emb1 j y).trans ?_
    show 512 * ((i 1).val / 512) + (i 1).val % 512 = (i 1).val
    omega

end Cert.BarrierProof
end
-- ==== Proof.Barrier.Protocol.lean ====
/-
# The protocol

On every device thirty-three semaphores are shared with the other devices: the barrier cell, sixteen send cells, sixteen
receive cells (of the sixteen the one at the device's own index stays idle). One round each:
* the barrier cell of `c` expects a unit of every other device `j`; with its unit `j` hands over row block `c` of its own
  result buffer, at any contents: the landing zone of the copy `c` sends it;
* the send cell `(c, j)` is paid when `c`'s copy to `j` has left, and hands column block `j` of `c`'s staged `x` back;
* the receive cell `(c, s)` is paid by `s`'s copy, and hands over row block `s` of `c`'s result buffer, written.
-/
module

public import proofs.«01_k».proof.Proof.Barrier.Contents

@[expose] public section

noncomputable section

namespace Cert.BarrierProof

open Cert.BarrieredIdeal Cert.BarrieredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- The shared semaphores of a device: the barrier; send (`false`) and receive (`true`) semaphore `j`. -/
abbrev CK : Type := Option (Bool × Dev nD)
abbrev osem (k : Bool × Dev nD) : SemLoc sig := bif k.1 then .dma (recvS k.2).sem else .dma (sendS k.2).sem
abbrev csem : CK → SemLoc sig
  | none => .reg barS
  | some k => osem k

theorem osem_inj : ∀ a b : Bool × Dev nD, osem a = osem b → a = b := by decide +kernel
theorem csem_injective : Function.Injective csem := fun a b h => by
  cases a with
  | none => cases b with
    | none => rfl
    | some b => obtain ⟨_ | _, j⟩ := b <;> cases h
  | some a => cases b with
    | none => obtain ⟨_ | _, j⟩ := a <;> cases h
    | some b => exact congrArg some (osem_inj a b h)

abbrev kcell (c : Dev nD) (k : CK) : GSem nD τ sig := ((c : Thread nD τ), csem k)
abbrev barCell (c : Dev nD) : GSem nD τ sig := kcell c none
abbrev sendCell (c j : Dev nD) : GSem nD τ sig := kcell c (some (false, j))
abbrev recvCell (c s : Dev nD) : GSem nD τ sig := kcell c (some (true, s))

theorem kcell_inj {c c' : Dev nD} {k k' : CK} (h : kcell c k = kcell c' k') : c = c' ∧ k = k' :=
  ⟨congrArg (fun g : GSem nD τ sig => g.1.1) h, csem_injective (congrArg Prod.snd h)⟩

/-- Which shared semaphore a location is, if any. -/
def code (sm : SemLoc sig) : Option CK := Function.partialInv csem sm
theorem code_csem (k : CK) : code (csem k) = some k := Function.partialInv_left csem_injective k
theorem csem_of_code {sm : SemLoc sig} {k : CK} (h : code sm = some k) : csem k = sm := (csem_injective.isPartialInv k sm).mp h

abbrev N : ℕ := (oRow 0).view.dmaCredit
theorem N_pos : 0 < N := View.dmaCredit_pos _ (by decide)

/-! ## The pieces of the buffers -/

/-- Device `c`'s staged block of `x`. -/
def xstg (c : Dev nD) : XC F := (win0_0.blk (0 : Fin 1)).view.read (Elt F) ((s₀ m ρ).mem ((c : Thread nD τ).loc main_arg0))
/-- Device `c`'s result. -/
def outAt (c : Dev nD) : OC F := outOf (xstg m ρ) c

def xPts (c j : Dev nD) : sProp 𝕄 := (xCol j).view.loc (c : Thread nD τ) ↦[(xCol j).view.set]{fullShare} xstg m ρ c
def oPts (c s : Dev nD) (f : OC F) : sProp 𝕄 := (oRow s).view.loc (c : Thread nD τ) ↦[(oRow s).view.set]{fullShare} f

omit [FloatOps F] in
instance xPts_storable (c j : Dev nD) : BI.Storable (upEmb : UEmb _ 𝕄) (xPts (F := F) m ρ c j) := by unfold xPts; infer_instance
omit [FloatOps F] in
instance oPts_storable (c s : Dev nD) (f) : BI.Storable (upEmb : UEmb _ 𝕄) (oPts (F := F) c s f) := by unfold oPts; infer_instance

omit [FloatOps F] in
theorem xPts_all (c : Dev nD) :
    (((c : Thread nD τ).loc cc0_stg0_0) ↦{fullShare} xstg m ρ c : sProp 𝕄) = bigSep Finset.univ (xPts (F := F) m ρ c) :=
  Ring.pointsTo_blocks (ℓ := (c : Thread nD τ).loc cc0_stg0_0) xSet (fun b b' h => xCol_disjoint b b' h) xCol_cover _
omit [FloatOps F] in
theorem oPts_all (c : Dev nD) (f : OC F) :
    (((c : Thread nD τ).loc cc0_stg1_0) ↦{fullShare} f : sProp 𝕄) = bigSep Finset.univ (fun s => oPts (F := F) c s f) :=
  Ring.pointsTo_blocks (ℓ := (c : Thread nD τ).loc cc0_stg1_0) oSet (fun b b' h => oRow_disjoint b b' h) oRow_cover _
omit [FloatOps F] in
/-- Row block `s` of `c` written with column block `c` of `s`'s `x` is row block `s` of the result. -/
theorem oPts_written (c s : Dev nD) (f : OC F) :
    oPts (F := F) c s ((oRow s).view.write (Elt F) f ((xCol c).view.read (Elt F) (xstg m ρ s)) Finset.univ) = oPts c s (outAt m ρ c) := by
  unfold oPts
  exact pointsTo_congr (write_row (xstg m ρ) c s f)

/-! ## The schedule -/

def pay (c : Dev nD) (k : Option CK) (d : Dev nD) : sProp 𝕄 := match k with
  | some none => iprop(∃ f, oPts d c f)
  | some (some (false, j)) => xPts m ρ c j
  | some (some (true, s)) => oPts c s (outAt m ρ c)
  | none => iprop(emp)
omit [FloatOps F] in
instance pay_storable (c : Dev nD) (k : Option CK) (d : Dev nD) : BI.Storable (upEmb : UEmb _ 𝕄) (pay (F := F) m ρ c k d) := by
  unfold pay; split <;> infer_instance

/-- The duties of round 0. The barrier: a unit of every other device. A send or receive cell: one duty, named by its index. -/
def duty0 (c : Dev nD) : Option CK → Finset (Dev nD)
  | some none => Finset.univ.erase c
  | some (some (_, j)) => if j = c then ∅ else {j}
  | none => ∅
def amt : Option CK → ℕ
  | some none => 1
  | _ => N

def Rd : Rounds.Schedule (GSem nD τ sig) (Dev nD) 𝕄 where
  duties g r := if r = 0 ∧ g.1.2 = .tc then duty0 g.1.1 (code g.2) else ∅
  unitless _ := False
  amount g _ _ := amt (code g.2)
  payload g _ d := pay m ρ g.1.1 (code g.2) d
  amount_pos g _ _ _ := by unfold amt; split; · exact Nat.one_pos
                           exact N_pos

instance Rd_payload_storable (g : GSem nD τ sig) (r : ℕ) (d : Dev nD) : BI.Storable (upEmb : UEmb _ 𝕄) ((Rd (F := F) m ρ).payload g r d) :=
  pay_storable m ρ g.1.1 (code g.2) d

omit [FloatOps F] in
theorem duties_at (c : Dev nD) (k : CK) : (Rd (F := F) m ρ).duties (kcell c k) 0 = duty0 c (some k) := by
  show (if 0 = 0 ∧ (kcell c k).1.2 = .tc then duty0 c (code (csem k)) else ∅) = _
  rw [if_pos ⟨rfl, rfl⟩, code_csem]
omit [FloatOps F] in
theorem duties_later (g : GSem nD τ sig) : ∀ r, 1 ≤ r → (Rd (F := F) m ρ).duties g r = ∅ :=
  fun r hr => if_neg fun h => by omega
omit [FloatOps F] in
theorem amount_at (c : Dev nD) (k : CK) (d : Dev nD) : (Rd (F := F) m ρ).amount (kcell c k) 0 d = amt (some k) := by
  show amt (code (csem k)) = _
  rw [code_csem]
omit [FloatOps F] in
theorem payload_at (c : Dev nD) (k : CK) (d : Dev nD) : (Rd (F := F) m ρ).payload (kcell c k) 0 d = pay m ρ c (some k) d := by
  show pay m ρ c (code (csem k)) d = _
  rw [code_csem]
omit [FloatOps F] in
theorem expect_at (c : Dev nD) (k : CK) : (Rd (F := F) m ρ).expect (kcell c k) 0 = (duty0 c (some k)).card * amt (some k) := by
  unfold Schedule.expect Schedule.amountOf
  rw [duties_at, Finset.sum_congr rfl fun d _ => amount_at m ρ c k d, Finset.sum_const, smul_eq_mul]

section One
variable {c j : Dev nD} (h : j ≠ c) (b : Bool)
include h
theorem duty0_one : duty0 c (some (some (b, j))) = {j} := if_neg h
omit [FloatOps F] in
theorem duties_one : (Rd (F := F) m ρ).duties (kcell c (some (b, j))) 0 = {j} := (duties_at m ρ c _).trans (duty0_one h b)
omit [FloatOps F] in
theorem expect_one : (Rd (F := F) m ρ).expect (kcell c (some (b, j))) 0 = N := by
  rw [expect_at, duty0_one h, Finset.card_singleton, Nat.one_mul]; rfl
omit [FloatOps F] in
theorem rest_one : bigSep ((Rd (F := F) m ρ).duties (kcell c (some (b, j))) 0 \ ∅) (fun d => (Rd (F := F) m ρ).payload (kcell c (some (b, j))) 0 d)
    = pay m ρ c (some (some (b, j))) j := by
  rw [Finset.sdiff_empty, duties_one m ρ h, bigSep_singleton, payload_at]
end One
omit [FloatOps F] in
theorem duties_own (c : Dev nD) (b : Bool) : ∀ r, 0 ≤ r → (Rd (F := F) m ρ).duties (kcell c (some (b, c))) r = ∅ := fun r _ => by
  rcases Nat.eq_zero_or_pos r with rfl | hr
  · rw [duties_at]; exact if_pos rfl
  · exact duties_later m ρ _ r hr
omit [FloatOps F] in
theorem expect_bar (c : Dev nD) : (Rd (F := F) m ρ).expect (barCell c) 0 = 15 := by
  rw [expect_at]
  show (Finset.univ.erase c).card * 1 = 15
  rw [Finset.card_erase_of_mem (Finset.mem_univ _), Finset.card_univ]; rfl
omit [FloatOps F] in
theorem rest_bar (c : Dev nD) : bigSep ((Rd (F := F) m ρ).duties (barCell c) 0 \ ∅) (fun d => (Rd (F := F) m ρ).payload (barCell c) 0 d)
    = bigSep (Finset.univ.erase c) fun j => iprop(∃ f, oPts (F := F) j c f) := by
  rw [Finset.sdiff_empty, duties_at]
  exact bigSep_congr fun d _ => payload_at m ρ c none d

/-! ## What each device owes at launch; the levels -/

def OR (c : Dev nD) (s : Finset (Dev nD)) : CellTallies nD τ sig Unit := ∑ p ∈ s, tallyAt (recvCell p c) () N
def OB (s : Finset (Dev nD)) : CellTallies nD τ sig Unit := ∑ p ∈ s, tallyAt (barCell p) () 1
def O₀ (c : Dev nD) : CellTallies nD τ sig Unit := OR c (Finset.univ.erase c) + OB (Finset.univ.erase c)

def L (g : GSem nD τ sig) : Finset Unit := if g.1.2 = .tc then {()} else ∅
/-- Barrier cells at 1, receive cells at 2, everything else at 0. -/
def lv (g : GSem nD τ sig) (_ : Unit) : ℕ := match code g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : CK) : lv (kcell c k) () = match k with | none => 1 | some (true, _) => 2 | some (false, _) => 0 := by
  show (match code (csem k) with | some none => 1 | some (some (true, _)) => 2 | _ => 0) = _
  rw [code_csem]
  rcases k with _ | ⟨_ | _, j⟩ <;> rfl

theorem tally_sum_apply (s : Finset (Dev nD)) (f : Dev nD → GSem nD τ sig) (n : ℕ) (g : GSem nD τ sig) :
    (∑ p ∈ s, tallyAt (f p) () n : CellTallies nD τ sig Unit) g () = ∑ p ∈ s, if g = f p then n else 0 := by
  rw [Finset.sum_apply, Finsupp.finset_sum_apply]
  refine Finset.sum_congr rfl fun p _ => ?_
  rw [tallyAt_apply]
  by_cases h : g = f p
  · rw [if_pos ⟨h, rfl⟩, if_pos h]
  · rw [if_neg fun h' => h h'.1, if_neg h]
theorem tally_sum_pos {s : Finset (Dev nD)} {f : Dev nD → GSem nD τ sig} {n : ℕ} {g : GSem nD τ sig}
    (h : 0 < (∑ p ∈ s, tallyAt (f p) () n : CellTallies nD τ sig Unit) g ()) : ∃ p ∈ s, g = f p := by
  rw [tally_sum_apply] at h
  by_contra hn
  rw [Finset.sum_eq_zero fun p hp => if_neg fun e => hn ⟨p, hp, e⟩] at h
  exact Nat.lt_irrefl 0 h

theorem O₀_pos {c : Dev nD} {g : GSem nD τ sig} {u : Unit} (h : 0 < O₀ c g u) : ∃ p, g = recvCell p c ∨ g = barCell p := by
  unfold O₀ at h
  rw [Pi.add_apply, Finsupp.add_apply] at h
  rcases Nat.add_pos_iff_pos_or_pos.mp h with h | h
  · obtain ⟨p, -, e⟩ := tally_sum_pos h; exact ⟨p, Or.inl e⟩
  · obtain ⟨p, -, e⟩ := tally_sum_pos h; exact ⟨p, Or.inr e⟩

omit [FloatOps F] in
theorem mayWait_stage (c : Dev nD) (q : DmaSem sig) (hq : ∀ s, SemLoc.dma q ≠ csem (some (true, s))) (O : CellTallies nD τ sig Unit) (hO : O = O₀ c ∨ O = 0) :
    (levAts L lv : sProp 𝕄) ⊢ MayWait (c : Thread nD τ) (.dma q) () O := by
  have hlv : lv ((c : Thread nD τ), .dma q) () = 0 := by
    show (match code (.dma q) with | some none => 1 | some (some (true, _)) => 2 | _ => 0) = 0
    split
    · next e => exact absurd (csem_of_code e) (fun h => by cases h)
    · next s e => exact absurd (csem_of_code e).symm (hq s)
    · rfl
  rcases hO with rfl | rfl
  · refine MayOwe.of_cut (L := L) (lev := lv) 0 (fun p hp => by rw [Finset.mem_singleton.mp hp, L_tc]; exact Finset.mem_singleton_self _)
      (fun g u hg => by obtain ⟨p, rfl | rfl⟩ := O₀_pos hg <;> exact Finset.mem_singleton_self _)
      (fun p hp => by rw [Finset.mem_singleton.mp hp]; exact hlv.le)
      (fun g u hg => by
        obtain ⟨p, rfl | rfl⟩ := O₀_pos hg
        · rw [lv_at]; exact Nat.lt_of_sub_eq_succ rfl
        · rw [lv_at]; exact Nat.lt_of_sub_eq_succ rfl)
  · rw [MayWait_zero]; iintro -; iempintro

omit [FloatOps F] in
/-- At its barrier wait a device owes receive credits only. -/
theorem mayWait_bar (c : Dev nD) (s : Finset (Dev nD)) :
    (levAts L lv : sProp 𝕄) ⊢ MayWait (c : Thread nD τ) (.reg barS) () (OR c s) :=
  MayOwe.of_cut (L := L) (lev := lv) 1 (fun p hp => by rw [Finset.mem_singleton.mp hp, L_tc]; exact Finset.mem_singleton_self _)
    (fun g u hg => by obtain ⟨p, -, rfl⟩ := tally_sum_pos hg; exact Finset.mem_singleton_self _)
    (fun p hp => by rw [Finset.mem_singleton.mp hp]; exact (lv_at c none).le)
    (fun g u hg => by obtain ⟨p, -, rfl⟩ := tally_sum_pos hg; rw [lv_at]; exact Nat.lt_of_sub_eq_succ rfl)

end Cert.BarrierProof
end
-- ==== Proof.Barrier.Steps.lean ====
/-
# The steps

One rule per kind of step, then one per phase: a phase is a fold of one kind of step over a list of devices, and its rule
goes by induction on the list.
-/
module

public import proofs.«01_k».proof.Proof.Barrier.Protocol

@[expose] public section

noncomputable section

namespace Cert.BarrierProof

open Cert.BarrieredIdeal Cert.BarrieredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## The guarded folds, their guards decided -/

section Folds
variable {α : Type}

def recvL : List (Dev nD) → Prog (EffB F) α → Prog (EffB F) α
  | [], k => k
  | s :: l, k => recvOp s (recvL l k)
def drainL (c : Dev nD) : List (Dev nD) → Prog (EffB F) α → Prog (EffB F) α
  | [], k => k
  | j :: l, k => drainOp c j (drainL c l k)

def others (c : Dev nD) : List (Dev nD) := devs.filter fun j => decide (j ≠ c)

theorem recvs_eq (c : Dev nD) (k : Prog (EffB F) α) (l : List (Dev nD)) : recvs c l k = recvL (l.filter fun j => decide (j ≠ c)) k := by
  induction l with
  | nil => rfl
  | cons s l ih =>
    unfold recvs
    by_cases h : s ≠ c
    · rw [if_pos h, List.filter_cons_of_pos (by simpa using h), ih]; rfl
    · rw [if_neg h, List.filter_cons_of_neg (by simpa using h), ih]
theorem drains_eq (c : Dev nD) (k : Prog (EffB F) α) (l : List (Dev nD)) : drains c l k = drainL c (l.filter fun j => decide (j ≠ c)) k := by
  induction l with
  | nil => rfl
  | cons s l ih =>
    unfold drains
    by_cases h : s ≠ c
    · rw [if_pos h, List.filter_cons_of_pos (by simpa using h), ih]; rfl
    · rw [if_neg h, List.filter_cons_of_neg (by simpa using h), ih]
theorem copies_skip (c : Dev nD) (k : Prog (EffB F) α) (l : List (Dev nD)) (h : c ∉ l) : copies c l k = k := by
  induction l with
  | nil => rfl
  | cons s l ih =>
    unfold copies
    rw [if_neg fun (e : s = c) => h (e ▸ List.mem_cons_self), ih fun h' => h (List.mem_cons_of_mem _ h')]
theorem copies_eq (c : Dev nD) (k : Prog (EffB F) α) (l : List (Dev nD)) (hn : l.Nodup) (h : c ∈ l) : copies c l k = copyOp c k := by
  induction l with
  | nil => cases h
  | cons s l ih =>
    unfold copies
    by_cases hs : s = c
    · subst hs; rw [if_pos rfl, copies_skip _ _ _ (List.nodup_cons.mp hn).1]
    · rw [if_neg hs, ih (List.nodup_cons.mp hn).2 ((List.mem_cons.mp h).resolve_left fun e => hs e.symm)]

theorem others_nodup (c : Dev nD) : (others c).Nodup := List.Nodup.filter _ (by decide)
theorem others_set (c : Dev nD) : (others c).toFinset = Finset.univ.erase c := by revert c; decide +kernel
theorem near_nodup (c : Dev nD) : (near c).Nodup := by revert c; decide +kernel
theorem near_set (c : Dev nD) : (near c).toFinset = Finset.univ.erase c := by revert c; decide +kernel
theorem far_nodup (c : Dev nD) : (far c).Nodup := by revert c; decide +kernel
theorem far_set (c : Dev nD) : (far c).toFinset = Finset.univ.erase c := by revert c; decide +kernel

/-- The body after the device has read its index. -/
theorem bodyOf_eq (c : Dev nD) : bodyOf (F := F) c = signals (near c) (.op (TpuEff.semWait barS (15#32 : BitVec 32).toInt) fun _ =>
    sends c (far c) (copyOp c (recvL (others c) (drainL c (others c) (.ret ⟨⟩))))) := by
  unfold bodyOf tailOf others
  rw [copies_eq c _ devs (by decide) (by revert c; decide), recvs_eq, drains_eq]
end Folds

/-! ## Every cell's invariant, and that round 0 of every cell is reached -/

variable (m : (ℓ : Loc nD τ sig) → Buf (Elt F) ℓ) (ρ : Dev nD → PrngReg) (K : Dev nD × CK → ℕ)

def records : sProp 𝕄 :=
  iprop((bigSep Finset.univ fun ck : Dev nD × CK => cellInv ER (Rd m ρ) (K ck) (kcell ck.1 ck.2))
    ∗ bigSep Finset.univ fun ck : Dev nD × CK => reached ER (kcell ck.1 ck.2) 0)

instance records_persistent : BI.Persistent (records m ρ K) := by unfold records; infer_instance

omit [FloatOps F] in
theorem rec_inv (c : Dev nD) (k : CK) : records m ρ K ⊢ cellInv ER (Rd m ρ) (K (c, k)) (kcell c k) := by
  unfold records
  exact sep_elim_left.trans (show _ ⊢ _ from bigSep_elim (Φ := fun ck : Dev nD × CK => (cellInv ER (Rd m ρ) (K ck) (kcell ck.1 ck.2) : sProp 𝕄)) (Finset.mem_univ (c, k)))
omit [FloatOps F] in
theorem rec_reached (c : Dev nD) (k : CK) : records m ρ K ⊢ reached ER (kcell c k) 0 := by
  unfold records
  exact sep_elim_right.trans (show _ ⊢ _ from bigSep_elim (Φ := fun ck : Dev nD × CK => (reached ER (kcell ck.1 ck.2) 0 : sProp 𝕄)) (Finset.mem_univ (c, k)))

/-- The weakest precondition of a piece of the body on device `c`. -/
abbrev WP {α : Type} (Q : α → sProp 𝕄) (c : Dev nD) (p : Prog (EffB F) α) : sProp 𝕄 :=
  wp frame (wpE (defs₀ (F := F)) 𝒱₀ (c : Thread nD τ) none) Set.univ p Q

section Phases
variable {α : Type} (c : Dev nD)

omit [FloatOps F] in
theorem bigSep_cons {p : Dev nD} {l : List (Dev nD)} (h : (p :: l).Nodup) (Φ : Dev nD → sProp 𝕄) :
    bigSep (p :: l).toFinset Φ = iprop(Φ p ∗ bigSep l.toFinset Φ) := by
  rw [List.toFinset_cons, bigSep_insert fun h' => (List.nodup_cons.mp h).1 (List.mem_toFinset.mp h')]; rfl
theorem sum_cons {A : Type} [AddCommMonoid A] {p : Dev nD} {l : List (Dev nD)} (h : (p :: l).Nodup) (f : Dev nD → A) :
    ∑ q ∈ (p :: l).toFinset, f q = (∑ q ∈ l.toFinset, f q) + f p := by
  rw [List.toFinset_cons, Finset.sum_insert fun h' => (List.nodup_cons.mp h).1 (List.mem_toFinset.mp h'), add_comm]

/-- What the signal to `p` is paid with: the duty's token and the landing zone of `p`'s copy. -/
def sigPre (p : Dev nD) : sProp 𝕄 := iprop(dutyTok ER (barCell p) 0 c ∗ ∃ f, oPts c p f)

theorem wp_signals {Q : α → sProp 𝕄} (k : Prog (EffB F) α) (O : CellTallies nD τ sig Unit) (W : Waits sig Unit) (l : List (Dev nD)) :
    l.Nodup → c ∉ l → iprop(records m ρ K ∗ owes (c : Thread nD τ) (O + OB l.toFinset) W ∗ bigSep l.toFinset (sigPre (F := F) c))
      ⊢ iprop((owes (c : Thread nD τ) O W -∗ WP Q c k) -∗ WP Q c (signals l k)) := by
  induction l with
  | nil =>
    intro _ _
    rw [show O + OB ([] : List (Dev nD)).toFinset = O from add_zero O]
    iintro ⟨-, HO, -⟩ Hk
    iapply Hk; iexact HO
  | cons p l ih =>
    intro hn hc
    have hpc : c ≠ p := fun e => hc (e ▸ List.mem_cons_self)
    rw [bigSep_cons hn, show OB (p :: l).toFinset = OB l.toFinset + tallyAt (barCell p) () 1 from sum_cons hn _, ← add_assoc]
    unfold sigPre
    iintro ⟨#HR, HO, ⟨Ht, Hf⟩, Hl⟩ Hk
    unfold signals
    iapply (Rounds.wp_signal 𝒱₀ ER (Rd m ρ) (c : Thread nD τ) none (dst := (p : Thread nD τ)) (κ := K (p, none))
        (d := c) (by rw [show (((p : Thread nD τ), SemLoc.reg barS) : GSem nD τ sig) = kcell p none from rfl, duties_at]; exact Finset.mem_erase.mpr ⟨hpc, Finset.mem_univ _⟩) ((amount_at m ρ p none c).trans (by decide)) () (O + OB l.toFinset) rfl)
      $$ [HO Ht Hf]
    · isplitr; · iapply (rec_inv m ρ K p none); iexact HR
      isplitl [HO]; · iexact HO
      isplitl [Ht]; · iexact Ht
      isplitl [Hf]; · rw [show (((p : Thread nD τ), SemLoc.reg barS) : GSem nD τ sig) = kcell p none from rfl, payload_at]; unfold pay; iexact Hf
      iapply (rec_reached m ρ K p none); iexact HR
    iintro HO
    iapply (ih (List.nodup_cons.mp hn).2 fun h => hc (List.mem_cons_of_mem _ h)) $$ [HO Hl]
    · isplitr; · iexact HR
      isplitl [HO]; · iexact HO
      iexact Hl
    iexact Hk

/-- What the copy to `p` is made from: column block `p` of the staged `x`, its landing zone on `p`, the two duties' tokens. -/
def sendPre (p : Dev nD) : sProp 𝕄 :=
  iprop(xPts m ρ c p ∗ (∃ f, oPts p c f) ∗ dutyTok ER (sendCell c p) 0 p ∗ dutyTok ER (recvCell p c) 0 c)
def sendPost (p : Dev nD) : sProp 𝕄 := cred (tallyAt (sendCell c p) () N)

theorem wp_send {Q : α → sProp 𝕄} (p : Dev nD) (hp : p ≠ c) (k : PUnit → Prog (EffB F) α) (O : CellTallies nD τ sig Unit) (W : Waits sig Unit) :
    iprop(records m ρ K ∗ owes (c : Thread nD τ) (O + tallyAt (recvCell p c) () N) W ∗ sendPre m ρ c p)
      ⊢ iprop((sendPost (F := F) c p ∗ owes (c : Thread nD τ) O W -∗ WP Q c (k ⟨⟩)) -∗ WP Q c (.op (sendOp c p) k)) := by
  unfold sendPre sendPost
  iintro ⟨#HR, HO, Hx, ⟨%f, Ho⟩, Hs, Hr⟩ Hk
  unfold xPts oPts sendOp
  iapply (Rounds.wp_send_pointsTo 𝒱₀ ER (Rd m ρ) (c : Thread nD τ) none (κ₁ := K (c, some (false, p))) (κ₂ := K (p, some (true, c)))
    (r₁ := 0) (r₂ := 0) (d₁ := p) (d₂ := c) (c' := (p : Thread nD τ)) (src := xCol p) (dst := oRow c)
    (fd := f) (fs := xstg m ρ c) (sS := .dma (sendS p).sem) (sem := .dma (recvS c).sem)
    (by rw [show (((c : Thread nD τ), SemLoc.dma (sendS p).sem) : GSem nD τ sig) = sendCell c p from rfl, duties_one m ρ hp]; exact Finset.mem_singleton_self _)
    (by rw [show (((p : Thread nD τ), SemLoc.dma (recvS c).sem) : GSem nD τ sig) = recvCell p c from rfl, duties_one m ρ hp.symm]; exact Finset.mem_singleton_self _)
    () () N rfl (amount_at m ρ c (some (false, p)) p) (amount_at m ρ p (some (true, c)) c) O rfl (W := W)
    (by rw [show (((c : Thread nD τ), SemLoc.dma (sendS p).sem) : GSem nD τ sig) = sendCell c p from rfl, payload_at]; exact BI.Entails.refl _)
    (by
      rw [show (((p : Thread nD τ), SemLoc.dma (recvS c).sem) : GSem nD τ sig) = recvCell p c from rfl, payload_at]
      exact Entails.of_eq (oPts_written m ρ p c f))) $$ [HO Hx Ho Hs Hr]
  · isplitr; · iapply (rec_inv m ρ K c (some (false, p))); iexact HR
    isplitr; · iapply (rec_inv m ρ K p (some (true, c))); iexact HR
    isplitl [Hx]; · iexact Hx
    isplitl [Ho]; · iexact Ho
    isplitl [HO]; · iexact HO
    isplitl [Hs]; · iexact Hs
    isplitr; · iapply (rec_reached m ρ K c (some (false, p))); iexact HR
    isplitl [Hr]; · iexact Hr
    iapply (rec_reached m ρ K p (some (true, c))); iexact HR
  iexact Hk

theorem wp_sends {Q : α → sProp 𝕄} (k : Prog (EffB F) α) (W : Waits sig Unit) (l : List (Dev nD)) :
    l.Nodup → c ∉ l → iprop(records m ρ K ∗ owes (c : Thread nD τ) (OR c l.toFinset) W ∗ bigSep l.toFinset (sendPre m ρ c))
      ⊢ iprop(((owes (c : Thread nD τ) 0 W ∗ bigSep l.toFinset (sendPost (F := F) c)) -∗ WP Q c k) -∗ WP Q c (sends c l k)) := by
  induction l generalizing k with
  | nil =>
    intro _ _
    rw [show OR c ([] : List (Dev nD)).toFinset = 0 from rfl, show ([] : List (Dev nD)).toFinset = ∅ from rfl, bigSep_empty]
    iintro ⟨-, HO, -⟩ Hk
    iapply Hk
    isplitl [HO]; · iexact HO
    iempintro
  | cons p l ih =>
    intro hn hc
    rw [bigSep_cons hn, bigSep_cons hn, show OR c (p :: l).toFinset = OR c l.toFinset + tallyAt (recvCell p c) () N from sum_cons hn _]
    iintro ⟨#HR, HO, Hp, Hl⟩ Hk
    unfold sends
    iapply (wp_send m ρ K c p (fun e => hc (e ▸ List.mem_cons_self)) _ (OR c l.toFinset) W) $$ [HO Hp]
    · isplitr; · iexact HR
      isplitl [HO] <;> iassumption
    iintro ⟨Hc, HO⟩
    iapply (ih k (List.nodup_cons.mp hn).2 fun h => hc (List.mem_cons_of_mem _ h)) $$ [HO Hl]
    · isplitr; · iexact HR
      isplitl [HO] <;> iassumption
    iintro ⟨HO, Hl⟩
    iapply Hk
    isplitl [HO]; · iexact HO
    isplitl [Hc] <;> iassumption

theorem pay_eq (v : Vec F S512x512 .f32) : k0_pay1 v = v :=
  funext fun i => congrArg v (Shape.reshapeEquiv_self _ i)

/-- The copy of the device's own block. -/
theorem wp_copy_own {Q : α → sProp 𝕄} (k : Prog (EffB F) α) :
    iprop(xPts m ρ c c ∗ ∃ f, oPts c c f) ⊢ iprop((xPts m ρ c c ∗ oPts c c (outAt m ρ c) -∗ WP Q c k) -∗ WP Q c (copyOp c k)) := by
  iintro ⟨Hx, %f, Ho⟩ Hk
  unfold copyOp
  unfold xPts oPts
  iapply (wp_load_rect 𝒱₀ (c : Thread nD τ) none Set.univ (m := xM) (r := colR c) (Finset.Subset.refl _)) $$ Hx; iintro Hx
  iapply (wp_load_rect 𝒱₀ (c : Thread nD τ) none Set.univ (m := oM) (r := rowR c) (Finset.Subset.refl _)) $$ Ho; iintro Ho
  iapply (wp_store 𝒱₀ (c : Thread nD τ) none Set.univ (m := oM) (r := rowR c) (Mk := Finset.univ)
    (S := (oM.access (rowR c)).set) (f := f) (Finset.Subset.refl _)) $$ Ho; iintro Ho
  iapply Hk
  isplitl [Hx]; · iexact Hx
  rw [pay_eq]
  ihave Ho := (Entails.of_eq ((show ((oM.access (rowR c)).loc (c : Thread nD τ) ↦[(oM.access (rowR c)).set]{fullShare}
      (oM.access (rowR c)).write (Elt F) f ((xM.access (colR c)).read (Elt F) (xstg m ρ c)) Finset.univ : sProp 𝕄)
    = oPts (F := F) c c ((oRow c).view.write (Elt F) f ((xCol c).view.read (Elt F) (xstg m ρ c)) Finset.univ) from rfl).trans
    (oPts_written m ρ c c f))) $$ Ho
  unfold oPts
  iexact Ho

/-- A wait for a send or a receive cell `j` of the device: its payload, and the cell closed. -/
theorem wp_wait_one {Q : α → sProp 𝕄} {j : Dev nD} (hj : j ≠ c) (b : Bool) (w : EffB F PUnit)
    (hw : ∀ K' : PUnit → sProp 𝕄, wpE (defs₀ (F := F)) 𝒱₀ (c : Thread nD τ) none Set.univ w K' = waitSpec (c : Thread nD τ) Set.univ (csem (some (b, j))) N K')
    (k : PUnit → Prog (EffB F) α) :
    iprop(records m ρ K ∗ (∃ W, owes (c : Thread nD τ) 0 W) ∗ cred (tallyAt (kcell c (some (b, j))) () N) ∗ atPos ER (kcell c (some (b, j))) 0 ∅ 0)
      ⊢ iprop(((∃ W, owes (c : Thread nD τ) 0 W) ∗ semVal (kcell c (some (b, j))) 0 ∗ pay m ρ c (some (some (b, j))) j -∗ WP Q c (k ⟨⟩)) -∗ WP Q c (.op w k)) := by
  iintro ⟨#HR, ⟨%W, HO⟩, Hc, Hat⟩ Hk
  iapply (Rounds.wp_wait_rest_token 𝒱₀ ER (Rd m ρ) (c : Thread nD τ) none (κ := K (c, some (b, j)))
      hw (Set.mem_univ _) () (O := 0) (W := W) (R := 0) (m := 0) (T := ∅)
      (by rw [Nat.zero_add]; exact (expect_one m ρ hj b).symm)) $$ [Hc HO Hat]
  · isplitr; · iapply (rec_inv m ρ K c (some (b, j))); iexact HR
    isplitl [Hc]; · iexact Hc
    isplitl [HO]; · iexact HO
    isplitr; · rw [MayWait_zero]; iempintro
    iexact Hat
  iintro ⟨HO, Hat, -, Hpay⟩
  ihave Hp := (Entails.of_eq (rest_one m ρ hj b)) $$ Hpay
  imod (Rounds.cell_close ER (Rd m ρ) (Set.mem_univ (K (c, some (b, j)))) (fun h => h) (R := 0 + 1) (duties_later m ρ (kcell c (some (b, j))))) $$ [Hat] with Hz
  · isplitr; · iapply (rec_inv m ρ K c (some (b, j))); iexact HR
    iexact Hat
  iapply Hk
  isplitl [HO]; · iexists _; iexact HO
  isplitl [Hz] <;> iassumption

omit [FloatOps F] in
theorem credit_row (s : Dev nD) : (oRow s).view.dmaCredit = N := rfl
omit [FloatOps F] in
theorem credit_col (j : Dev nD) : (xCol j).view.dmaCredit = N := rfl

def waitPre (b : Bool) (j : Dev nD) : sProp 𝕄 := iprop(cred (tallyAt (kcell c (some (b, j))) () N) ∗ atPos ER (kcell c (some (b, j))) 0 ∅ 0)
def waitPost (b : Bool) (j : Dev nD) : sProp 𝕄 := iprop(semVal (kcell c (some (b, j))) 0 ∗ pay m ρ c (some (some (b, j))) j)

theorem wp_recvOp {Q : α → sProp 𝕄} {j : Dev nD} (hj : j ≠ c) (k : Prog (EffB F) α) :
    iprop(records m ρ K ∗ (∃ W, owes (c : Thread nD τ) 0 W) ∗ waitPre (F := F) c true j)
      ⊢ iprop(((∃ W, owes (c : Thread nD τ) 0 W) ∗ waitPost m ρ c true j -∗ WP Q c k) -∗ WP Q c (recvOp j k)) := by
  unfold recvOp waitPre waitPost
  exact wp_wait_one m ρ K (Q := Q) c hj true (TpuEff.waitDma2 (recvS j).sem (xCol j) (oRow j) (View.wordExact_bits rfl) (View.wordExact_bits rfl)) (fun K' => (wpE_waitDma2_eq 𝒱₀ (c : Thread nD τ) none Set.univ K').trans (by rw [credit_row]; rfl)) fun _ => k
theorem wp_drainOp {Q : α → sProp 𝕄} {j : Dev nD} (hj : j ≠ c) (k : Prog (EffB F) α) :
    iprop(records m ρ K ∗ (∃ W, owes (c : Thread nD τ) 0 W) ∗ waitPre (F := F) c false j)
      ⊢ iprop(((∃ W, owes (c : Thread nD τ) 0 W) ∗ waitPost m ρ c false j -∗ WP Q c k) -∗ WP Q c (drainOp c j k)) := by
  unfold drainOp waitPre waitPost
  exact wp_wait_one m ρ K (Q := Q) c hj false (TpuEff.waitDma2 (sendS j).sem (oRow c) (xCol j) (View.wordExact_bits rfl) (View.wordExact_bits rfl)) (fun K' => (wpE_waitDma2_eq 𝒱₀ (c : Thread nD τ) none Set.univ K').trans (by rw [credit_col]; rfl)) fun _ => k

theorem wp_recvs {Q : α → sProp 𝕄} (k : Prog (EffB F) α) (l : List (Dev nD)) :
    l.Nodup → c ∉ l → iprop(records m ρ K ∗ (∃ W, owes (c : Thread nD τ) 0 W) ∗ bigSep l.toFinset (waitPre (F := F) c true))
      ⊢ iprop(((∃ W, owes (c : Thread nD τ) 0 W) ∗ bigSep l.toFinset (waitPost m ρ c true) -∗ WP Q c k) -∗ WP Q c (recvL l k)) := by
  induction l with
  | nil =>
    intro _ _
    rw [show ([] : List (Dev nD)).toFinset = ∅ from rfl, bigSep_empty]
    iintro ⟨-, HO, -⟩ Hk
    iapply Hk
    isplitl [HO]; · iexact HO
    iempintro
  | cons p l ih =>
    intro hn hc
    rw [bigSep_cons hn, bigSep_cons hn]
    iintro ⟨#HR, HO, Hp, Hl⟩ Hk
    unfold recvL
    iapply (wp_recvOp m ρ K c (fun e => hc (e ▸ List.mem_cons_self)) _) $$ [HO Hp]
    · isplitr; · iexact HR
      isplitl [HO] <;> iassumption
    iintro ⟨HO, Hp⟩
    iapply (ih (List.nodup_cons.mp hn).2 fun h => hc (List.mem_cons_of_mem _ h)) $$ [HO Hl]
    · isplitr; · iexact HR
      isplitl [HO] <;> iassumption
    iintro ⟨HO, Hl⟩
    iapply Hk
    isplitl [HO]; · iexact HO
    isplitl [Hp]; · iexact Hp
    iexact Hl

theorem wp_drains {Q : α → sProp 𝕄} (k : Prog (EffB F) α) (l : List (Dev nD)) :
    l.Nodup → c ∉ l → iprop(records m ρ K ∗ (∃ W, owes (c : Thread nD τ) 0 W) ∗ bigSep l.toFinset (waitPre (F := F) c false))
      ⊢ iprop(((∃ W, owes (c : Thread nD τ) 0 W) ∗ bigSep l.toFinset (waitPost m ρ c false) -∗ WP Q c k) -∗ WP Q c (drainL c l k)) := by
  induction l with
  | nil =>
    intro _ _
    rw [show ([] : List (Dev nD)).toFinset = ∅ from rfl, bigSep_empty]
    iintro ⟨-, HO, -⟩ Hk
    iapply Hk
    isplitl [HO]; · iexact HO
    iempintro
  | cons p l ih =>
    intro hn hc
    rw [bigSep_cons hn, bigSep_cons hn]
    iintro ⟨#HR, HO, Hp, Hl⟩ Hk
    unfold drainL
    iapply (wp_drainOp m ρ K c (fun e => hc (e ▸ List.mem_cons_self)) _) $$ [HO Hp]
    · isplitr; · iexact HR
      isplitl [HO] <;> iassumption
    iintro ⟨HO, Hp⟩
    iapply (ih (List.nodup_cons.mp hn).2 fun h => hc (List.mem_cons_of_mem _ h)) $$ [HO Hl]
    · isplitr; · iexact HR
      isplitl [HO] <;> iassumption
    iintro ⟨HO, Hl⟩
    iapply Hk
    isplitl [HO]; · iexact HO
    isplitl [Hp]; · iexact Hp
    iexact Hl

end Phases

end Cert.BarrierProof
end
-- ==== Proof.Barrier.Body.lean ====
/-
# The body, executed

From the launch's resources of one device to its result block and its counters at zero.
-/
module

public import proofs.«01_k».proof.Proof.Barrier.Steps

@[expose] public section

noncomputable section

namespace Cert.BarrierProof

open Cert.BarrieredIdeal Cert.BarrieredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's share of the launch -/

omit [FloatOps F] in
/-- The shared cells of a device: the barrier, the send cells, the receive cells. -/
theorem bigSep_CK (Φ : CK → sProp 𝕄) :
    bigSep Finset.univ Φ = iprop(Φ none ∗ (bigSep Finset.univ fun j => Φ (some (false, j))) ∗ bigSep Finset.univ fun j => Φ (some (true, j))) := by
  have h1 : (Finset.univ : Finset CK) = insert none (Finset.univ.map Function.Embedding.some) := by decide +kernel
  rw [h1, bigSep_insert (by simp), bigSep_map]
  refine congrArg (fun X => iprop(Φ none ∗ X)) ?_
  rw [bigSep_univ_prod]
  exact bigSep_univ_eq_bigSepL [false, true] (by decide) (by decide) _

/-- The tokens of the duties device `c` pays. -/
def payToks (c : Dev nD) : sProp 𝕄 :=
  bigSep Finset.univ fun j => iprop(dutyTok ER (barCell j) 0 c ∗ dutyTok ER (sendCell c j) 0 j ∗ dutyTok ER (recvCell j c) 0 c)
def linear (c : Dev nD) : sProp 𝕄 := iprop((bigSep Finset.univ fun k => atPos ER (kcell c k) 0 ∅ 0) ∗ payToks c)
def ghost (K : Dev nD × CK → ℕ) (c : Dev nD) : sProp 𝕄 := iprop(records m ρ K ∗ linear c)
def credsOf (c : Dev nD) : sProp 𝕄 :=
  iprop(cred (tallyAt (barCell c) () 15) ∗ bigSep (Finset.univ.erase c) fun s => cred (tallyAt (recvCell c s) () N))

def start (c : Dev nD) : sProp 𝕄 := iprop((∃ K, ghost m ρ K c) ∗ credsOf c ∗ levAts L lv)
/-- At the end every shared cell of the device is at zero. -/
def Φ₁ (c : Dev nD) : sProp 𝕄 := bigSep Finset.univ fun k => semVal (kcell c k) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => start m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [show t = t0_0 from fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The resources, sorted by phase -/

section Sorted
variable (c : Dev nD)

local notation "rest" => Finset.univ.erase c

omit [FloatOps F] in
theorem toks_sort : (payToks c : sProp 𝕄) ⊢ iprop((bigSep rest fun j => dutyTok ER (barCell j) 0 c)
    ∗ bigSep rest fun j => iprop(dutyTok ER (sendCell c j) 0 j ∗ dutyTok ER (recvCell j c) 0 c)) := by
  unfold payToks
  rw [← bigSep_sep']
  exact bigSep_subset (Finset.subset_univ _)

omit [FloatOps F] in
theorem sig_one (p : Dev nD) (f : OC F) : iprop((dutyTok ER (barCell p) 0 c : sProp 𝕄) ∗ oPts (F := F) c p f) ⊢ sigPre c p := by
  unfold sigPre
  iintro ⟨H, Ho⟩
  isplitl [H]; · iexact H
  iexists f; iexact Ho

omit [FloatOps F] in
theorem sig_sort (f : OC F) : iprop((bigSep rest fun j => (dutyTok ER (barCell j) 0 c : sProp 𝕄)) ∗ bigSep rest fun s => oPts (F := F) c s f)
    ⊢ bigSep rest (sigPre c) := by
  rw [← bigSep_sep']
  exact bigSep_mono fun p _ => sig_one c p f

omit [FloatOps F] in
theorem send_sort : iprop((bigSep rest fun j => xPts (F := F) m ρ c j) ∗ (bigSep rest fun p => iprop(∃ f, oPts (F := F) p c f))
      ∗ bigSep rest fun j => iprop(dutyTok ER (sendCell c j) 0 j ∗ dutyTok ER (recvCell j c) 0 c))
    ⊢ bigSep rest (sendPre m ρ c) := by
  rw [← bigSep_sep', ← bigSep_sep']
  exact Entails.of_eq (bigSep_congr fun p _ => by unfold sendPre; rfl)

omit [FloatOps F] in
theorem wait_sort (b : Bool) : iprop((bigSep rest fun j => (cred (tallyAt (kcell c (some (b, j))) () N) : sProp 𝕄))
      ∗ bigSep rest fun j => (atPos ER (kcell c (some (b, j))) 0 ∅ 0 : sProp 𝕄))
    ⊢ bigSep rest (waitPre (F := F) c b) := by
  rw [← bigSep_sep']
  exact Entails.of_eq (bigSep_congr fun p _ => by unfold waitPre; rfl)

omit [FloatOps F] in
theorem post_sort (b : Bool) : bigSep rest (waitPost m ρ c b)
    ⊢ iprop((bigSep rest fun j => (semVal (kcell c (some (b, j))) 0 : sProp 𝕄)) ∗ bigSep rest fun j => pay m ρ c (some (some (b, j))) j) := by
  rw [← bigSep_sep']
  exact Entails.of_eq (bigSep_congr fun p _ => by unfold waitPost; rfl)

omit [FloatOps F] in
theorem at_own {Φ : Dev nD → sProp 𝕄} : iprop(Φ c ∗ bigSep rest Φ) ⊢ bigSep Finset.univ Φ := Entails.of_eq (bigSep_univ_at Φ c).symm
end Sorted

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m ρ K c ∗ credsOf c ∗ levAts L lv)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outAt m ρ c))

set_option maxHeartbeats 800000 in
/-- The body, from `bodyPre` to `bodyPost`: signals, the barrier wait, sends, own copy, receive waits, send waits. -/
theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1) Kt := by
  rw [body_eq]
  simp only [wp_deviceId]
  rw [bodyOf_eq]
  unfold bodyPre ghost linear credsOf
  rw [bigSep_CK, bigSep_univ_at (fun j => (atPos ER (kcell c (some (false, j))) 0 ∅ 0 : sProp 𝕄)) c,
    bigSep_univ_at (fun j => (atPos ER (kcell c (some (true, j))) 0 ∅ 0 : sProp 𝕄)) c]
  iintro ⟨⟨⟨⟨#HR, ⟨HatB, ⟨HatSo, HatS⟩, ⟨HatVo, HatV⟩⟩, Htok⟩, ⟨HcB, HcV⟩, #Hlev⟩, Ho, ⟨%d0, %g0, %hg0, Hx⟩, ⟨%d1, %g1, %hg1, Hout⟩⟩, Hk⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = OR c (Finset.univ.erase c) + OB (Finset.univ.erase c) from rfl]
  ihave Hx' := (Entails.of_eq ((xPts_all m ρ c).trans (bigSep_univ_at _ c))) $$ Hx
  ihave Ho' := (Entails.of_eq ((oPts_all (F := F) c g1).trans (bigSep_univ_at _ c))) $$ Hout
  icases Hx' with ⟨Hxo, Hx⟩
  icases Ho' with ⟨Hoo, Hout⟩
  ihave Ht := (toks_sort (F := F) c) $$ Htok
  icases Ht with ⟨HtB, HtSV⟩
  -- the signals
  have hne : c ∉ (Finset.univ.erase c : Finset (Dev nD)) := Finset.notMem_erase _ _
  iapply (wp_signals m ρ K c _ (OR c (Finset.univ.erase c)) W (near c) (near_nodup c) (fun h => hne (near_set c ▸ List.mem_toFinset.mpr h))) $$ [HO HtB Hout]
  · rw [near_set]
    isplitr; · iexact HR
    isplitl [HO]; · iexact HO
    iapply (sig_sort (F := F) c g1)
    isplitl [HtB] <;> iassumption
  iintro HO
  -- the barrier wait
  iapply (Rounds.wp_wait_rest_token 𝒱₀ ER (Rd m ρ) (c : Thread nD τ) none (κ := K (c, none))
      (wpE_semWait_eq 𝒱₀ (c : Thread nD τ) none Set.univ) (Set.mem_univ _) () (O := OR c (Finset.univ.erase c)) (W := W) (R := 0) (m := 0) (T := ∅)
      (by rw [expect_bar]; decide)) $$ [HcB HO HatB]
  · isplitr; · iapply (rec_inv m ρ K c none); iexact HR
    isplitl [HcB]; · iexact HcB
    isplitl [HO]; · iexact HO
    isplitr; · iapply (mayWait_bar (F := F) c); iexact Hlev
    iexact HatB
  iintro ⟨HO, HatB, -, Hpay⟩
  ihave Hz := (Entails.of_eq (rest_bar m ρ c)) $$ Hpay
  -- the copies to the peers
  iapply (wp_sends m ρ K c _ (insert (SemLoc.reg barS, ()) W) (far c) (far_nodup c) (fun h => hne (far_set c ▸ List.mem_toFinset.mpr h))) $$ [HO Hx Hz HtSV]
  · rw [far_set]
    isplitr; · iexact HR
    isplitl [HO]; · iexact HO
    iapply (send_sort m ρ c)
    isplitl [Hx]; · iexact Hx
    isplitl [Hz] <;> iassumption
  rw [far_set]
  iintro ⟨HO, HcS⟩
  -- its own block
  iapply (wp_copy_own m ρ c _) $$ [Hxo Hoo]
  · isplitl [Hxo]; · iexact Hxo
    iexists g1; iexact Hoo
  iintro ⟨Hxo, Hoo⟩
  -- the blocks of the peers
  iapply (wp_recvs m ρ K c _ (others c) (others_nodup c) (fun h => hne (others_set c ▸ List.mem_toFinset.mpr h))) $$ [HO HcV HatV]
  · rw [others_set]
    isplitr; · iexact HR
    isplitl [HO]; · iexists _; iexact HO
    iapply (wait_sort (F := F) c true)
    isplitl [HcV] <;> iassumption
  rw [others_set]
  iintro ⟨HO, Hrecv⟩
  ihave Hrecv := (post_sort m ρ c true) $$ Hrecv
  icases Hrecv with ⟨HzV, Hout⟩
  -- its copies read out
  iapply (wp_drains m ρ K c _ (others c) (others_nodup c) (fun h => hne (others_set c ▸ List.mem_toFinset.mpr h))) $$ [HO HcS HatS]
  · rw [others_set]
    isplitr; · iexact HR
    isplitl [HO]; · iexact HO
    iapply (wait_sort (F := F) c false)
    isplitl [HcS]; · iexact HcS
    iexact HatS
  rw [others_set]
  iintro ⟨⟨%W', HO⟩, Hdr⟩
  ihave Hdr := (post_sort m ρ c false) $$ Hdr
  icases Hdr with ⟨HzS, Hx⟩
  -- the cells that are still open
  imod (Rounds.cell_close ER (Rd m ρ) (Set.mem_univ (K (c, none))) (fun h => h) (R := 0 + 1) (duties_later m ρ (barCell c))) $$ [HatB] with HzB
  · isplitr; · iapply (rec_inv m ρ K c none); iexact HR
    iexact HatB
  imod (Rounds.cell_close ER (Rd m ρ) (Set.mem_univ (K (c, some (false, c)))) (fun h => h) (R := 0) (duties_own m ρ c false)) $$ [HatSo] with HzSo
  · isplitr; · iapply (rec_inv m ρ K c (some (false, c))); iexact HR
    iexact HatSo
  imod (Rounds.cell_close ER (Rd m ρ) (Set.mem_univ (K (c, some (true, c)))) (fun h => h) (R := 0) (duties_own m ρ c true)) $$ [HatVo] with HzVo
  · isplitr; · iapply (rec_inv m ρ K c (some (true, c))); iexact HR
    iexact HatVo
  rw [wp_ret]; imodintro
  iapply Hk
  unfold bodyPost Φ₁ Dat.owesAt Pipeline.owesWithin
  rw [show (dats m ρ 0 c).owed t0_0.succ = 0 from rfl, bigSep_CK]
  isplitl [HzB HzSo HzS HzVo HzV]
  · isplitl [HzB]; · iexact HzB
    isplitl [HzSo HzS]
    · iapply (at_own (F := F) c (Φ := fun j => semVal (kcell c (some (false, j))) 0)); isplitl [HzSo] <;> iassumption
    iapply (at_own (F := F) c (Φ := fun j => semVal (kcell c (some (true, j))) 0)); isplitl [HzVo] <;> iassumption
  isplitl [HO]
  · iexists W'
    isplitr; · ipureintro; exact fun _ _ => Or.inl trivial
    iexact HO
  isplitl [Hxo Hx]
  · iexists _; isplitr; · (ipureintro; rfl)
    iapply (Entails.of_eq ((xPts_all m ρ c).trans (bigSep_univ_at _ c)).symm)
    isplitl [Hxo]; · iexact Hxo
    iexact Hx
  iexists _; isplitr; · (ipureintro; rfl)
  iapply (Entails.of_eq ((oPts_all (F := F) c (outAt m ρ c)).trans (bigSep_univ_at _ c)).symm)
  isplitl [Hoo]; · iexact Hoo
  iexact Hout

def bodyPre' (c : Dev nD) : sProp 𝕄 :=
  iprop(start m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- The library's body obligation on device `c`. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1) (fun _ => bodyPost m ρ c)
  unfold bodyPre' start
  iintro ⟨⟨⟨%K, Hg⟩, Hrest⟩, Ho, Hx, Hout⟩
  iapply (sound_body m ρ K c fun _ => bodyPost m ρ c)
  unfold bodyPre
  isplitr []
  · isplitl [Hg Hrest]
    · isplitl [Hg]; · iexact Hg
      iexact Hrest
    isplitl [Ho]; · iexact Ho
    isplitl [Hx] <;> iassumption
  · iintro H; iexact H

end Cert.BarrierProof
end
-- ==== Proof.Barrier.Launch.lean ====
/-
# The launch

Every shared cell gets its invariant, the duty tokens are dealt to the devices that pay them, and the launch theorem turns
the body into a run of all sixteen devices.
-/
module

public import proofs.«01_k».proof.Proof.Barrier.Body
public import Idealize.ShloMosaic.Lib.Pipeline.CollectiveSegs

@[expose] public section

noncomputable section

namespace Cert.BarrierProof

open Cert.BarrieredIdeal Cert.BarrieredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := ⟨by decide +kernel, fun a b h => osem_inj a b h, by decide +kernel⟩

theorem share_eq (c : Dev nD) (w : Fin cfg0.W) : (dats m ρ 0 c).share w = fullShare := by unfold Dat.share; split <;> rfl

/-! ### Cells and tokens -/

abbrev cellAt (ck : Dev nD × CK) : GSem nD τ sig := kcell ck.1 ck.2
theorem cellAt_injective : Function.Injective cellAt := fun a b h => Prod.ext (kcell_inj h).1 (kcell_inj h).2
def allCells : Finset (GSem nD τ sig) := Finset.univ.map ⟨cellAt, cellAt_injective⟩

/-- The token of device `x.1`'s duty named `x.2.1` at its barrier (`none`), send or receive cell. -/
abbrev tokCell (k : Option Bool) (j : Dev nD) : CK := k.map fun b => (b, j)
abbrev tokAt (x : Dev nD × Dev nD × Option Bool) : GSem nD τ sig × ℕ × Dev nD := (kcell x.1 (tokCell x.2.2 x.2.1), 0, x.2.1)
theorem tokAt_injective : Function.Injective tokAt := by
  rintro ⟨c, j, k⟩ ⟨c', j', k'⟩ h
  have hj : j = j' := congrArg (fun x : GSem nD τ sig × ℕ × Dev nD => x.2.2) h
  subst hj
  obtain ⟨h1, h2⟩ := kcell_inj (congrArg Prod.fst h)
  have h1 : c = c' := h1
  subst h1
  have : k = k' := Option.map_injective (fun a b h => congrArg Prod.fst h) h2
  subst this; rfl
def allToks : Finset (GSem nD τ sig × ℕ × Dev nD) := Finset.univ.map ⟨tokAt, tokAt_injective⟩

def u₀ : UU := (initOf (Pipeline.cells cfgs cellOf_inj) (Pipeline.launchToks cfgs cellOf_inj), initOf allCells allToks)

/-- The duty tokens of device `c`'s own cells. -/
def toks (c : Dev nD) : sProp 𝕄 :=
  bigSep Finset.univ fun j => iprop(dutyTok ER (barCell c) 0 j ∗ dutyTok ER (sendCell c j) 0 j ∗ dutyTok ER (recvCell c j) 0 j)

def G (c : Dev nD) : sProp 𝕄 :=
  iprop((bigSep Finset.univ fun k : CK => roundState ER (Rd m ρ) (kcell c k) 0)
    ∗ (bigSep Finset.univ fun k : CK => iprop(atPos ER (kcell c k) 0 ∅ 0 ∗ reached ER (kcell c k) 0)) ∗ toks c)
def G' (c : Dev nD) : sProp 𝕄 := iprop(∃ K, ghost m ρ K c)

omit [FloatOps F] in
theorem cells_split (Φ : GSem nD τ sig → sProp 𝕄) :
    bigSep allCells Φ = bigSep Finset.univ fun c : Dev nD => bigSep Finset.univ fun k : CK => Φ (kcell c k) := by
  unfold allCells; rw [bigSep_map, bigSep_univ_prod]; rfl
omit [FloatOps F] in
theorem toks_split : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  unfold toks; rw [bigSep_univ_prod]
  exact bigSep_congr fun j _ => bigSep_univ_eq_bigSepL [none, some false, some true] (by decide) (by decide) _

omit [FloatOps F] in
theorem fund_all : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  ihave Hst' := (Entails.of_eq (cells_split fun g => roundState ER (Rd m ρ) g 0)) $$ Hst
  ihave Hat' := (Entails.of_eq (cells_split (F := F) fun g => atPos ER g 0 ∅ 0)) $$ Hat
  ihave Hr' := (Entails.of_eq (cells_split (F := F) fun g => reached ER g 0)) $$ Hr
  ihave Htok' := (Entails.of_eq (toks_split (F := F))) $$ Htok
  unfold G; simp only [bigSep_sep']
  isplitl [Hst']; · iexact Hst'
  isplitl [Hat' Hr']
  · isplitl [Hat'] <;> iassumption
  iexact Htok'

omit [FloatOps F] in
/-- The send and receive semaphores are the kernel's own; the barrier is the one the launch holds outside its scope. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    (bigSep Finset.univ fun k : CK => (semVal (kcell c k) 0 : sProp 𝕄))
      = iprop(unscopedSems0 c ∗ Pipeline.ownSems0 (Ix := Unit) (Name := ℕ) (U := UU) (Lvl := ℕ) (Val := Elt F) (τ := τ) osem c) := by
  rw [bigSep_CK, unscopedSems0_eq]
  unfold Pipeline.ownSems0
  rw [bigSep_univ_prod (fun k : Bool × Dev nD => (semVal ((c : Thread nD τ), osem k) 0 : sProp 𝕄))]
  exact congrArg (fun X => iprop(semVal (barCell c) 0 ∗ X)) (bigSep_univ_eq_bigSepL [false, true] (by decide) (by decide)
    (fun b : Bool => bigSep Finset.univ fun j : Dev nD => (semVal ((c : Thread nD τ), osem (b, j)) 0 : sProp 𝕄))).symm

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell c k)))
          ∗ (bigSep Finset.univ fun k => iprop(atPos ER (kcell c k) 0 ∅ 0 ∗ reached ER (kcell c k) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CK => semVal (kcell c k) 0) ∗ bigSep Finset.univ fun k : CK => roundState ER (Rd m ρ) (kcell c k) 0)
      ⊢ (|={Set.univ}=> bigSep Finset.univ fun k => iprop(∃ κ : ℕ, cellInv ER (Rd m ρ) κ (kcell c k)) : sProp 𝕄) from by
        rw [← bigSep_sep']
        exact (bigSep_mono fun k _ => (Rounds.body_intro ER (Rd m ρ) (kcell c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A barrier or receive token goes to the device that pays its duty. -/
theorem toks_deal : (bigSep Finset.univ fun c : Dev nD => (toks c : sProp 𝕄)) = bigSep Finset.univ fun c : Dev nD => payToks c := by
  unfold toks payToks
  simp only [bigSep_sep']
  rw [bigSep_univ_comm (fun c j : Dev nD => (dutyTok ER (barCell c) 0 j : sProp 𝕄)),
    bigSep_univ_comm (fun c j : Dev nD => (dutyTok ER (recvCell c j) 0 j : sProp 𝕄))]

omit [FloatOps F] in
theorem ghost_intro (K : Dev nD × CK → ℕ) (c : Dev nD) : iprop(records m ρ K ∗ linear c) ⊢ G' m ρ c := by
  unfold G' ghost
  iintro H
  iexists K; iexact H

omit [FloatOps F] in
theorem regroup :
    (bigSep Finset.univ fun c : Dev nD => iprop((bigSep Finset.univ fun k => iprop(∃ κ : ℕ, cellInv ER (Rd m ρ) κ (kcell c k)))
          ∗ (bigSep Finset.univ fun k => iprop(atPos ER (kcell c k) 0 ∅ 0 ∗ reached ER (kcell c k) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck.1 ck.2))),
    bigSep_congr (s := Finset.univ) (fun (c : Dev nD) _ => bigSep_sep' Finset.univ (fun k : CK => (atPos ER (kcell c k) 0 ∅ 0 : sProp 𝕄)) (fun k => reached ER (kcell c k) 0)),
    bigSep_sep', ← bigSep_univ_prod (fun ck : Dev nD × CK => (reached ER (kcell ck.1 ck.2) 0 : sProp 𝕄)), toks_deal]
  iintro ⟨HI, ⟨Hat, #HR⟩, Htk⟩
  ihave HK := (BI.bigSep_exists_pi Finset.univ (fun (ck : Dev nD × CK) (κ : ℕ) => (cellInv ER (Rd m ρ) κ (kcell ck.1 ck.2) : sProp 𝕄))) $$ HI
  icases HK with ⟨%K, #HI⟩
  iapply (bigSep_with_persistent (R := records m ρ K) fun c _ => ghost_intro m ρ K c)
  isplitr
  · unfold records; isplitl; · iexact HI
    iexact HR
  · unfold linear
    rw [bigSep_sep']
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_iff (c p : Dev nD) : Iff (barCell c = barCell p) (c = p) := ⟨fun h => (kcell_inj h).1, fun h => h ▸ rfl⟩
theorem recv_iff (c p s t : Dev nD) : Iff (recvCell c s = recvCell p t) (c = p ∧ s = t) :=
  ⟨fun h => ⟨(kcell_inj h).1, congrArg Prod.snd (Option.some.inj (kcell_inj h).2)⟩, fun ⟨h, h'⟩ => h ▸ h' ▸ rfl⟩
theorem bar_ne_recv (c p s : Dev nD) : barCell c ≠ recvCell p s := fun h => by have h' := (kcell_inj h).2; cases h'

theorem owed_at (d : Dev nD) (g : GSem nD τ sig) :
    O₀ d g () = (∑ p ∈ Finset.univ.erase d, if g = recvCell p d then N else 0) + ∑ p ∈ Finset.univ.erase d, if g = barCell p then 1 else 0 := by
  unfold O₀ OR OB
  rw [Pi.add_apply, Finsupp.add_apply, tally_sum_apply, tally_sum_apply]

/-- What device `d` owes device `c`'s barrier: a unit, if it is another device. -/
theorem owed_bar (d c : Dev nD) : O₀ d (barCell c) () = if d = c then 0 else 1 := by
  rw [owed_at]
  have h1 : (∑ p ∈ Finset.univ.erase d, if barCell c = recvCell p d then N else 0) = 0 := Finset.sum_eq_zero fun p _ => if_neg (bar_ne_recv c p d)
  have h2 : (∑ p ∈ Finset.univ.erase d, if barCell c = barCell p then 1 else 0) = ∑ p ∈ Finset.univ.erase d, if c = p then 1 else 0 :=
    Finset.sum_congr rfl fun p _ => if_congr (bar_iff c p) rfl rfl
  rw [h1, h2, Nat.zero_add, Finset.sum_ite_eq]
  by_cases h : d = c
  · rw [if_pos h, if_neg (by rw [h]; exact Finset.notMem_erase _ _)]
  · rw [if_neg h, if_pos (Finset.mem_erase.mpr ⟨fun e => h e.symm, Finset.mem_univ _⟩)]
/-- What device `d` owes receive cell `s` of device `c`: the block's credit, if it is `s` and not `c`. -/
theorem owed_recv (d c s : Dev nD) (hs : s ≠ c) : O₀ d (recvCell c s) () = if d = s then N else 0 := by
  rw [owed_at]
  have h1 : (∑ p ∈ Finset.univ.erase d, if recvCell c s = barCell p then 1 else 0) = 0 :=
    Finset.sum_eq_zero fun p _ => if_neg fun h => bar_ne_recv p c s h.symm
  rw [h1, Nat.add_zero]
  by_cases h : d = s
  · subst h
    have h2 : (∑ p ∈ Finset.univ.erase d, if recvCell c d = recvCell p d then N else 0) = ∑ p ∈ Finset.univ.erase d, if c = p then N else 0 :=
      Finset.sum_congr rfl fun p _ => if_congr ((recv_iff c p d d).trans ⟨And.left, fun h => ⟨h, rfl⟩⟩) rfl rfl
    rw [if_pos rfl, h2, Finset.sum_ite_eq, if_pos (Finset.mem_erase.mpr ⟨fun e => hs e.symm, Finset.mem_univ _⟩)]
  · rw [if_neg h]
    exact Finset.sum_eq_zero fun p _ => if_neg fun e => h ((recv_iff c p s d).mp e).2.symm

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel
theorem launch_recv (c s : Dev nD) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs, Finset.sum_ite_eq' Finset.univ s fun _ => N,
    if_pos (Finset.mem_univ _)]

omit [FloatOps F] in
theorem creds (c : Dev nD) : (Pipeline.launchCred O₀ c : sProp 𝕄) ⊢ credsOf c := by
  unfold Pipeline.launchCred credsOf
  refine (bigSep_subset (Finset.subset_univ (Finset.univ.map ⟨csem, csem_injective⟩))).trans ?_
  rw [bigSep_map, bigSep_CK]
  refine sep_mono (Entails.of_eq (congrArg cred (launch_bar c))) (sep_elim_right.trans ((bigSep_subset (Finset.erase_subset c _)).trans ?_))
  exact Entails.of_eq (bigSep_congr fun s hs => congrArg cred (launch_recv c s (Finset.ne_of_mem_erase hs)))

/-! ### The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems0_eq]
  iintro ⟨HB, HO⟩
  isplitl [HB]; · iexact HB
  isplitl [HO]; · iexact HO
  iempintro

theorem stage_ne : ∀ (w : Fin 2) (s : Fin (spec0 w).nbuf) (j : Dev nD), SemLoc.dma ((spec0 w).sem s) ≠ csem (some (true, j)) := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_ne w s) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the sixteen kernels terminates,
    every final state has each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.BarrierProof
end
-- ==== Proof.Barrier.Value.lean ====
/-
# What the run computes

Every device's result array ends at its column block of the whole `x`.
-/
module

public import proofs.«01_k».proof.Proof.Barrier.Launch
public import Idealize.ShloMosaic.Lib.Layout

@[expose] public section

noncomputable section

namespace Cert.BarrierProof

open Cert.BarrieredIdeal Cert.BarrieredIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

omit [FloatOps F] in
theorem read_win1 (f : (main_v1 : Ref sig .tc).ty.Contents (Elt F)) : (win0_1.blk (0 : Fin 1)).view.read (Elt F) f = f := by
  funext i
  show f _ = f _
  refine congrArg f (funext fun a => Fin.ext ?_)
  fin_cases a <;> (show _ + 1 * _ = _; rw [Nat.one_mul]; exact Nat.zero_add _)
omit [FloatOps F] in
theorem read_win0 (f : (main_arg0 : Ref sig .tc).ty.Contents (Elt F)) : (win0_0.blk (0 : Fin 1)).view.read (Elt F) f = f := by
  funext i
  show f _ = f _
  refine congrArg f (funext fun a => Fin.ext ?_)
  fin_cases a <;> (show _ + 1 * _ = _; rw [Nat.one_mul]; exact Nat.zero_add _)

omit [FloatOps F] in
theorem xstg_eq (c : Dev nD) : xstg m ρ c = m ((c : Thread nD τ).loc main_arg0) := read_win0 _

/-- The result array after the run. -/
theorem finalA_o (c : Dev nD) : finalA m ρ c (1 : Fin 2) = outAt m ρ c := by
  refine (read_win1 (F := F) _).symm.trans ?_
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

omit [FloatOps F] in
/-- Where each device holds its row block of one array `A`, each device's result is its column block of `A`. -/
theorem outAt_block (A : Shape.Idx ⟨2, ![8192, 8192]⟩ → Elt F .f32)
    (h : ∀ c : Dev nD, m ((c : Thread nD τ).loc main_arg0) = Layout.block ⟨2, ![512, 8192]⟩ ⟨2, ![8192, 8192]⟩ 0 16 c A) (c : Dev nD) :
    outAt m ρ c = Layout.block ⟨2, ![8192, 512]⟩ ⟨2, ![8192, 8192]⟩ 1 16 c A := by
  funext i
  show xstg m ρ (rowDev i) (srcIx c i) = A _
  rw [xstg_eq, h]
  show A _ = A _
  refine congrArg A (funext fun b => Fin.ext ?_)
  rw [Layout.Tiles.idx_val, Layout.Tiles.idx_val]
  fin_cases b
  · show (i 0).val / 512 * 512 + (i 0).val % 512 = (i 0).val
    exact Nat.div_add_mod' _ _
  · show 512 * c.val + (i 1).val = c.val * 512 + (i 1).val
    rw [Nat.mul_comm]

/-- The run, read at the argument and the result of every device. -/
theorem run_value : θ_run defs (onTc (τ := τ) (main (F := F))) (s₀ m ρ) (fun r => (∀ c : Dev nD,
    r.2.mem ((c.tc : Thread nD τ).loc main_v1) = outAt m ρ c
      ∧ r.2.mem ((c.tc : Thread nD τ).loc main_arg0) = m ((c.tc : Thread nD τ).loc main_arg0)) ∧ r.2.sem = fun _ => 0) :=
  (θ_run defs _ _).mono (fun _ h => ⟨fun c => ⟨(h.1 c (1 : Fin 2)).trans (finalA_o m ρ c), (h.1 c (0 : Fin 2)).trans (finalA_x m ρ c)⟩, h.2⟩)
    (run_main m ρ)

end Cert.BarrierProof
end
-- ==== Proof.lean ====
module

public import proofs.«01_k».proof.Defs
public import proofs.«01_k».proof.Proof.Gen.Barriered
public import proofs.«01_k».proof.Proof.Gen.Barriered.Skeleton
public import proofs.«01_k».proof.Proof.Gen.Barriered.Launch
public import proofs.«01_k».proof.Proof.Gen.Barriered.Points
public import proofs.«01_k».proof.Proof.Gen.Barriered.Frame
public import proofs.«01_k».proof.Proof.Gen.BarrieredIdeal
public import proofs.«01_k».proof.Proof.Gen.BarrieredIdeal.Skeleton
public import proofs.«01_k».proof.Proof.Gen.BarrieredIdeal.Launch
public import proofs.«01_k».proof.Proof.Gen.BarrieredIdeal.Points
public import proofs.«01_k».proof.Proof.Gen.BarrieredIdeal.Frame
public import proofs.«01_k».proof.Proof.Gen.ReferenceIdeal
public import proofs.«01_k».proof.Proof.Barrier.Value
public import Idealize.ShloMosaic.Lib.StableHlo.Run
public import Idealize.ShloMosaic.Adequacy
public import Idealize.ShloMosaic.Lib.Quiescent
public import Idealize.ShloMosaic.Init

@[expose] public section

noncomputable section

namespace Cert.Proof

open Idealize.ShloMosaic Idealize.ShloMosaic.TcCoe Idealize.SL.Sem Cert.BarrierProof

/-! ## The reference, which returns its argument -/

section Reference
open Cert.ReferenceIdeal Idealize.ShloMosaic.StableHlo

variable {F : FTy → Type} [FloatOps F]

/-- `main` does nothing, so every buffer ends holding what it held; the result array is the argument itself. -/
theorem ref_run (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (run_seq (by decide) (by decide) defs main (fun _ => []) (fun _ => rfl) (fun _ => trivial) m ρ)

end Reference

/-! ## The claims -/

/-- The kernel over the extended reals terminates, leaves its argument and returns every counter to zero. -/
theorem frame_ideal : Cert.quiescent_BarrieredIdeal := fun m ρ _ =>
  (θ_run Cert.BarrieredIdeal.defs _ _).mono (fun _ h => ⟨fun c => (h.1 c).2, h.2⟩) (run_value (F := Ideal) m ρ)

/-- The program as printed and its idealization have the same text, so the same functions. -/
theorem defs_eq {F : FTy → Type} [FloatOps F] : Cert.Barriered.defs (F := F) = Cert.BarrieredIdeal.defs (F := F) := by
  refine congrArg (Pipeline.defs Cert.BarrieredIdeal.pcfgs) ?_
  unfold Cert.Barriered.defs₀ Cert.BarrieredIdeal.defs₀
  refine congrArg Defs.onTc ?_
  funext l a
  match l, a with
  | 0, (t, s) => rfl

/-- The same of the program as printed: the run holds over any float values, since the kernel only moves data. -/
theorem frame_bits : Cert.quiescent_Barriered := fun m ρ _ => by
  rw [defs_eq]
  exact (θ_run Cert.BarrieredIdeal.defs _ _).mono (fun _ h => ⟨fun c => (h.1 c).2, h.2⟩) (run_value (F := Bits) m ρ)

/-- The reference terminates and leaves its argument; it declares no semaphore. -/
theorem frame_ref : Cert.quiescent_ReferenceIdeal := fun m ρ _ =>
  (θ_run Cert.ReferenceIdeal.defs _ _).mono (fun _ h => ⟨h, sem_eq_zero_of_no_sems (by decide) _⟩) (ref_run (F := Ideal) m ρ)

/-- Device `c`'s result is block `c` by columns of the whole array of which each device holds a block by rows. -/
theorem value : Cert.algebraic_BarrieredIdeal_ReferenceIdeal := fun m ρ m' ρ' _ hx =>
  ⟨m' (((0 : Dev Cert.ReferenceIdeal.nD).tc : Thread Cert.ReferenceIdeal.nD Cert.ReferenceIdeal.τ).loc Cert.ReferenceIdeal.main_arg0),
    (θ_run Cert.BarrieredIdeal.defs _ _).mono (fun _ h c => ⟨((h.1 c).1).trans (outAt_block m ρ _ hx c), (h.1 c).2⟩) (run_value (F := Ideal) m ρ),
    (θ_run Cert.ReferenceIdeal.defs _ _).mono (fun _ h => ⟨h 0, h 0⟩) (ref_run (F := Ideal) m' ρ')⟩

theorem claim : Cert.Claim := ⟨Cert.Barriered.Gen.facts, Cert.BarrieredIdeal.Gen.facts, Cert.ReferenceIdeal.Gen.facts,
  frame_bits, frame_ideal, frame_ref, trivial, value⟩

end Cert.Proof

end
